-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 8192]⟩ ⟨2, ![4096, 8192]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S4096x8192 : Shape := ⟨2, ![4096, 8192]⟩
abbrev S1 : Shape := ⟨1, ![1]⟩
abbrev S1024x8192 : Shape := ⟨2, ![1024, 8192]⟩
abbrev S4x1024x1024 : Shape := ⟨3, ![4, 1024, 1024]⟩
abbrev S2x512x8192 : Shape := ⟨3, ![2, 512, 8192]⟩
abbrev S4 : Shape := ⟨1, ![4]⟩
abbrev S2 : Shape := ⟨1, ![2]⟩
abbrev S_ : Shape := ⟨0, ![]⟩
abbrev S1x1024x1024 : Shape := ⟨3, ![1, 1024, 1024]⟩
abbrev S1024x1024 : Shape := ⟨2, ![1024, 1024]⟩
abbrev S1x512x8192 : Shape := ⟨3, ![1, 512, 8192]⟩
abbrev S512x8192 : Shape := ⟨2, ![512, 8192]⟩
abbrev S1024x512 : Shape := ⟨2, ![1024, 512]⟩
abbrev S512x1024 : Shape := ⟨2, ![512, 1024]⟩
abbrev S1x1024x512 : Shape := ⟨3, ![1, 1024, 512]⟩

abbrev nBuf : Space → Nat
  | .hbm => 5
  | .vmem => 4
  | .smem => 2
  | _ => 0

abbrev bufTy : (tb : Table) → Fin (tcTables nBuf tb) → BufTy
  | .hbm, ⟨0, _⟩ => ⟨S4096x1024, .i8⟩
  | .hbm, ⟨1, _⟩ => ⟨S4096x8192, .i8⟩
  | .hbm, ⟨2, _⟩ => ⟨S1, .f32⟩
  | .hbm, ⟨3, _⟩ => ⟨S1, .f32⟩
  | .hbm, ⟨4, _⟩ => ⟨S1024x8192, .f32⟩
  | .local _ .vmem, ⟨0, _⟩ => ⟨S4096x1024, .i8⟩
  | .local _ .vmem, ⟨1, _⟩ => ⟨S1024x8192, .f32⟩
  | .local _ .vmem, ⟨2, _⟩ => ⟨S4x1024x1024, .i8⟩
  | .local _ .vmem, ⟨3, _⟩ => ⟨S2x512x8192, .i8⟩
  | .local _ .smem, ⟨0, _⟩ => ⟨S1, .f32⟩
  | .local _ .smem, ⟨1, _⟩ => ⟨S1, .f32⟩
  | _, _ => ⟨S4096x1024, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_18 : BitVec 32 := 0#32
  let c0_i32_19 : BitVec 32 := 0#32
  ![v2.toNat, 0, 0]
def k0_off3 (d0 : Dev nD) (c1_i32_13 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v16 : BitVec 32 := Scalar.addi v2 c1_i32_13
  let c4_i32_14 : BitVec 32 := 4#32
  let v17 : BitVec 32 := Scalar.remsi v16 c4_i32_14
  let c1024_i32 : BitVec 32 := 1024#32
  let v18 : BitVec 32 := Scalar.muli v17 c1024_i32
  let c0_i32_20 : BitVec 32 := 0#32
  ![v18.toNat, 0]
def k0_dev4 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v16 : BitVec 32 := Scalar.addi v2 c1_i32_13
  let c4_i32_14 : BitVec 32 := 4#32
  let v17 : BitVec 32 := Scalar.remsi v16 c4_i32_14
  let c1_i32_16 : BitVec 32 := 1#32
  let v19 : BitVec 32 := Scalar.muli v17 c1_i32_16
  let v20 : BitVec 32 := Scalar.addi c0_i32_17 v19
  v20.toNat
def k0_dev5 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_21 : BitVec 32 := 3#32
  let v28 : BitVec 32 := Scalar.addi v2 c3_i32_21
  let c4_i32_22 : BitVec 32 := 4#32
  let v29 : BitVec 32 := Scalar.remsi v28 c4_i32_22
  let c1_i32_25 : BitVec 32 := 1#32
  let v31 : BitVec 32 := Scalar.muli v29 c1_i32_25
  let v32 : BitVec 32 := Scalar.addi c0_i32_26 v31
  v32.toNat
def k0_dev6 (d0 : Dev nD) : Nat :=
  let c0_i32_35 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_30 : BitVec 32 := 2#32
  let v40 : BitVec 32 := Scalar.addi v2 c2_i32_30
  let c4_i32_31 : BitVec 32 := 4#32
  let v41 : BitVec 32 := Scalar.remsi v40 c4_i32_31
  let c1_i32_34 : BitVec 32 := 1#32
  let v43 : BitVec 32 := Scalar.muli v41 c1_i32_34
  let v44 : BitVec 32 := Scalar.addi c0_i32_35 v43
  v44.toNat
def k0_off4 (d0 : Dev nD) (c0_i32_39 : BitVec 32) (c0_i32_48 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v52 : BitVec 32 := Scalar.addi v2 c0_i32_39
  let c4_i32_40 : BitVec 32 := 4#32
  let v53 : BitVec 32 := Scalar.remsi v52 c4_i32_40
  let c1024_i32_47 : BitVec 32 := 1024#32
  let v60 : BitVec 32 := Scalar.muli v53 c1024_i32_47
  let v61 : BitVec 32 := Scalar.addi v60 c0_i32_48
  let c0_i32_53 : BitVec 32 := 0#32
  ![v61.toNat, 0]
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_67 : BitVec 32 := 1024#32
  let v81 : BitVec 32 := Scalar.muli v2 c1024_i32_67
  let v82 : Index := Scalar.indexCast v81
  let c0 : Index := 0#32
  ![v82.toNat, 0]
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_122 : BitVec 32 := 1024#32
  let v147 : BitVec 32 := Scalar.muli v2 c1024_i32_122
  let v148 : Index := Scalar.indexCast v147
  let c512 : Index := 512#32
  ![v148.toNat, 512]
def k0_off7 (d0 : Dev nD) (c3_i32_41 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v54 : BitVec 32 := Scalar.addi v2 c3_i32_41
  let c4_i32_42 : BitVec 32 := 4#32
  let v55 : BitVec 32 := Scalar.remsi v54 c4_i32_42
  ![v55.toNat]
def k0_off8 (d0 : Dev nD) (c3_i32_41 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v54 : BitVec 32 := Scalar.addi v2 c3_i32_41
  let c4_i32_42 : BitVec 32 := 4#32
  let v55 : BitVec 32 := Scalar.remsi v54 c4_i32_42
  let c0_i32_189 : BitVec 32 := 0#32
  let c0_i32_190 : BitVec 32 := 0#32
  ![v55.toNat, 0, 0]
def k0_off9 (d0 : Dev nD) (c3_i32_41 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v54 : BitVec 32 := Scalar.addi v2 c3_i32_41
  let c4_i32_42 : BitVec 32 := 4#32
  let v55 : BitVec 32 := Scalar.remsi v54 c4_i32_42
  let v245 : Index := Scalar.indexCast v55
  let c0_207 : Index := 0#32
  let c0_208 : Index := 0#32
  ![v245.toNat, 0, 0]
def k0_off10 (d0 : Dev nD) (c3_i32_41 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v54 : BitVec 32 := Scalar.addi v2 c3_i32_41
  let c4_i32_42 : BitVec 32 := 4#32
  let v55 : BitVec 32 := Scalar.remsi v54 c4_i32_42
  let v334 : Index := Scalar.indexCast v55
  let c0_287 : Index := 0#32
  let c512_288 : Index := 512#32
  ![v334.toNat, 0, 512]
abbrev stage0_0 : Fin 1 → Memref sig .tc .vmem S4096x1024 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x8192, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x8192, .i32⟩
  | .hbm, ⟨7, _⟩ => ⟨S4096x8192, .f32⟩
  | .hbm, ⟨8, _⟩ => ⟨S4096x8192, .f32⟩
  | .hbm, ⟨9, _⟩ => ⟨S1, .f32⟩
  | .hbm, ⟨10, _⟩ => ⟨S1x1, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Proof.Prog.lean ====
module

public import proofs.«01_k».proof.Proof.Gen.KernelIdeal.Skeleton

@[expose] public section

/-!
# The kernel's body as a program of named steps

One device's body: announce to the three peers, wait for their announcements, send three row blocks of
the activations, then eight strips of 512 contracted columns each, of which strips 0 and 1 use the
device's own block and the others a received block, and last the three waits for the sends.
BodyEq.lean says that the printed body is this program.
-/

noncomputable section

namespace Cert.KernelIdeal.Steps

open Cert.KernelIdeal Cert.KernelIdeal.Gen Idealize.ShloMosaic Idealize.SL.Sem

variable {F : FTy → Type} [FloatOps F]

local notation "Pr" => Prog (TpuEff nD τ sig (Elt F) Λ₀ Proc.tc)

/-! ## The buffers -/

/-- the activations of this device, staged -/
abbrev xM : Memref sig .tc .vmem S4096x1024 .i8 := Memref.whole cc0_stg0_0
/-- the weights, in the large memory -/
abbrev wM : Memref sig .tc .hbm S4096x8192 .i8 := Memref.whole main_arg1
/-- the scale of the activations -/
abbrev sxM : Memref sig .tc .smem S1 .f32 := Memref.whole cc0_stg1_0
/-- the scale of the weights -/
abbrev swM : Memref sig .tc .smem S1 .f32 := Memref.whole cc0_stg2_0
/-- the result, staged -/
abbrev oM : Memref sig .tc .vmem S1024x8192 .f32 := Memref.whole cc0_stg3_0
/-- the four slots for received blocks -/
abbrev cM : Memref sig .tc .vmem S4x1024x1024 .i8 := Memref.whole cc0_scratch0
/-- the two buffers for strips of weights -/
abbrev bM : Memref sig .tc .vmem S2x512x8192 .i8 := Memref.whole cc0_scratch1

/-! ## The views -/

/-- rows of this device's activations that go to the device `r + 1` further on -/
abbrev xBlk (d : Dev nD) (r : Fin 3) : Memref sig .tc .vmem S1024x1024 .i8 :=
  xM.slice (Rect.unit (s := S4096x1024) (k0_off3 d (BitVec.ofNat 32 (1 + r.val))) S1024x1024.size (k0_off3_inb d r)) (fun _ => rfl)
/-- the slot, on every device, that device `d` fills -/
abbrev cSlot (d : Dev nD) : Memref sig .tc .vmem S1024x1024 .i8 :=
  (cM.slice (Rect.unit (s := S4x1024x1024) (k0_off2 d) S1x1024x1024.size (k0_off2_inb d)) (fun _ => rfl)).squeeze
    S1024x1024 squeezes_S1x1024x1024_S1024x1024
/-- the slot that the device `r + 1` further on fills here -/
abbrev cIn (d : Dev nD) (r : Fin 3) : Memref sig .tc .vmem S1024x1024 .i8 :=
  (cM.slice (Rect.unit (s := S4x1024x1024) (k0_off8 d (BitVec.ofNat 32 (1 + r.val))) S1x1024x1024.size (k0_off8_inb d r)) (fun _ => rfl)).squeeze
    S1024x1024 squeezes_S1x1024x1024_S1024x1024

theorem inb_send (r : Fin 3) : ∀ a, (![1 + r.val] : Fin 1 → Nat) a + S1.size a ≤ S4.size a := by
  revert r; decide
theorem inb_slot (b : Fin 2) : ∀ a, (![b.val, 0, 0] : Fin 3 → Nat) a + S1x512x8192.size a ≤ S2x512x8192.size a := by
  revert b; decide
theorem inb_wsem (b : Fin 2) : ∀ a, (![b.val] : Fin 1 → Nat) a + S1.size a ≤ S2.size a := by
  revert b; decide
theorem words_slot (b : Fin 2) :
    (Rect.unit (s := S2x512x8192) ![b.val, 0, 0] S1x512x8192.size (inb_slot b)).WholeWords (EltTy.packing .i8) := by
  revert b; decide
theorem inb_chunk (k : Fin 8) : ∀ a, (![0, 1024 * k.val] : Fin 2 → Nat) a + S1024x1024.size a ≤ S1024x8192.size a := by
  revert k; decide
theorem slices_chunk (k : Fin 8) : S512x8192.Slices ![0, 1024 * k.val] S512x1024 := by
  revert k; decide

/-- the semaphore of the announcements -/
abbrev barS : Sem sig := sig.barrier 0 rfl
/-- the semaphore of the send to the device `r + 1` further on -/
abbrev sendSem (r : Fin 3) : DmaSem sig :=
  ((cc0_scratch2.slice (Rect.unit (s := S4) ![1 + r.val] S1.size (inb_send r))).squeeze S_ squeezes_S1_S_).sem
/-- the semaphore, on every device, of the block that device `d` sends there -/
abbrev outSem (d : Dev nD) : DmaSem sig :=
  ((cc0_scratch3.slice (Rect.unit (s := S4) (k0_off1 d) S1.size (k0_off1_inb d))).squeeze S_ squeezes_S1_S_).sem
/-- the semaphore of the block that the device `r + 1` further on sends here -/
abbrev inSem (d : Dev nD) (r : Fin 3) : DmaSem sig :=
  ((cc0_scratch3.slice (Rect.unit (s := S4) (k0_off7 d (BitVec.ofNat 32 (1 + r.val))) S1.size (k0_off7_inb d r))).squeeze S_ squeezes_S1_S_).sem
/-- the semaphore of the copies into weight buffer `b` -/
abbrev wSem (b : Fin 2) : DmaSem sig :=
  ((cc0_scratch4.slice (Rect.unit (s := S2) ![b.val] S1.size (inb_wsem b))).squeeze S_ squeezes_S1_S_).sem

/-- half `h` of the weight rows that belong to the device `r` further on -/
abbrev wSrc (d : Dev nD) (r : Fin 4) (h : Fin 2) : Memref sig .tc .hbm S512x8192 .i8 :=
  wM.slice (Rect.unit (s := S4096x8192) (k0_off4 d (BitVec.ofNat 32 r.val) (BitVec.ofNat 32 (512 * h.val))) S512x8192.size (k0_off4_inb d r h)) (fun _ => rfl)
/-- weight buffer `b` -/
abbrev wDst (b : Fin 2) : Memref sig .tc .vmem S512x8192 .i8 :=
  (bM.slice (Rect.unit (s := S2x512x8192) ![b.val, 0, 0] S1x512x8192.size (inb_slot b)) (fun _ => rfl)).squeeze
    S512x8192 squeezes_S1x512x8192_S512x8192

/-- the column chunk `k` of the result -/
abbrev oRect (k : Fin 8) : Rect S1024x8192 :=
  Rect.unit (s := S1024x8192) ![0, 1024 * k.val] S1024x1024.size (inb_chunk k)
/-- all of weight buffer `b` -/
abbrev bRect (b : Fin 2) : Rect S2x512x8192 :=
  Rect.unit (s := S2x512x8192) ![b.val, 0, 0] S1x512x8192.size (inb_slot b)

/-! ## The values -/

/-- one half block of activations times one chunk of a strip of weights -/
def part (k : Fin 8) (x : IVec S1024x512 8) (w : IVec S512x8192 8) : FVec F S1024x1024 .f32 :=
  sitofp .f32 (matmulI8 IntMxuNumerics.v7x dot_S1024x512_S512x1024_S1024x1024_1_0_0_1_n_n x
    (extractStridedSlice S512x1024 ![0, 1024 * k.val] w (slices_chunk k))
    (constantI S1024x1024 32 0#32))

/-- the running sum plus one part -/
def accum (k : Fin 8) (x : IVec S1024x512 8) (w : IVec S512x8192 8) (o : Vec F S1024x1024 .f32) : FVec F S1024x1024 .f32 :=
  addf (shapeCast S1024x1024 o shapeCasts_S1024x1024_S1024x1024) (part k x w)

/-- the finished sum, scaled and cut off below at zero -/
def finish (k : Fin 8) (x : IVec S1024x512 8) (w : IVec S512x8192 8) (sx sw : Elt F .f32) (o : Vec F S1024x1024 .f32) :
    FVec F S1024x1024 .f32 :=
  maximumf (mulf (accum k x w o) (broadcast S1024x1024 (Scalar.mulf sx sw)))
    (broadcast S1024x1024 (Scalar.ofBits .f32 0x00000000#32))

/-! ## The steps -/

/-- store into chunk `k` of the result -/
def storeOut (k : Fin 8) (v : FVec F S1024x1024 .f32) : Pr PUnit :=
  Prog.lift (.store oM (oRect k) v Finset.univ (View.stores_vmem_bits_univ h_S1024x1024 rfl) (.inl rfl))
/-- load chunk `k` of the result -/
def loadOut (k : Fin 8) : Pr (Vec F S1024x1024 .f32) :=
  Prog.lift (.load oM (oRect k).toLoadRect (View.loadsAt_vmem h_S1024x1024))
/-- load the strip in weight buffer `b` -/
def loadW (b : Fin 2) : Pr (IVec S512x8192 8) := do
  let w : Vec F S1x512x8192 .i8 ← Prog.lift (.load bM (bRect b).toLoadRect (View.loadsAt_vmem h_S1x512x8192))
  pure (shapeCast S512x8192 w shapeCasts_S1x512x8192_S512x8192)

/-- chunk `k` of the first strip -/
def chunkFirst (b : Fin 2) (x : IVec S1024x512 8) (k : Fin 8) : Pr PUnit := do
  let w ← loadW b
  let _ ← loadOut k
  storeOut k (part k x w)
/-- chunk `k` of a middle strip -/
def chunkMid (b : Fin 2) (x : IVec S1024x512 8) (k : Fin 8) : Pr PUnit := do
  let w ← loadW b
  let o ← loadOut k
  let _ ← loadOut k
  storeOut k (accum k x w o)
/-- chunk `k` of the last strip -/
def chunkLast (b : Fin 2) (x : IVec S1024x512 8) (k : Fin 8) : Pr PUnit := do
  let w ← loadW b
  let sx ← smemLoad sxM (Rect.unit (s := S1) ![0] S1.size inb_S1_S1_0) numel1_S1 rfl
  let sw ← smemLoad swM (Rect.unit (s := S1) ![0] S1.size inb_S1_S1_0) numel1_S1 rfl
  let o ← loadOut k
  let _ ← loadOut k
  storeOut k (finish k x w sx sw o)

/-- a strip's eight chunks, in order -/
def eight (f : Fin 8 → Pr PUnit) : Pr PUnit := do
  f 0; f 1; f 2; f 3; f 4; f 5; f 6; f 7

/-- send this device's block for the device `r + 1` further on, which is `t` -/
def send (d t : Dev nD) (r : Fin 3) : Pr PUnit :=
  Prog.lift (.enqueueDma (xBlk d r) (.remote (Dev.tc t) (cSlot d) (.dma (sendSem r))) (.dma (outSem d))
    ((Memref.isWhole_whole _).wordExact_slice rfl _ (k0_off3_wordsi8 d r))
    (((Memref.isWhole_whole _).wordExact_slice rfl _ (k0_off2_wordsi8 d)).reshape _ _) ⟨⟨rfl, Or.inl rfl⟩, trivial⟩)
/-- wait until that send has left -/
def waitSend (d : Dev nD) (r : Fin 3) : Pr PUnit :=
  Prog.lift (.waitDma2 (sendSem r) (cSlot d) (xBlk d r)
    (((Memref.isWhole_whole _).wordExact_slice rfl _ (k0_off2_wordsi8 d)).reshape _ _)
    ((Memref.isWhole_whole _).wordExact_slice rfl _ (k0_off3_wordsi8 d r)))
/-- wait for the block of the device `r + 1` further on -/
def recv (d : Dev nD) (r : Fin 3) : Pr PUnit :=
  Prog.lift (.waitDma2 (inSem d r) (cIn d r) (cIn d r)
    (((Memref.isWhole_whole _).wordExact_slice rfl _ (k0_off8_wordsi8 d r)).reshape _ _)
    (((Memref.isWhole_whole _).wordExact_slice rfl _ (k0_off8_wordsi8 d r)).reshape _ _))
/-- start the copy of a strip of weights into buffer `b` -/
def startW (d : Dev nD) (r : Fin 4) (h b : Fin 2) : Pr PUnit :=
  Prog.lift (.enqueueDma (wSrc d r h) (.here (wDst b)) (.dma (wSem b))
    ((Memref.isWhole_whole _).wordExact_slice rfl _ (k0_off4_wordsi8 d r h))
    (((Memref.isWhole_whole _).wordExact_slice rfl _ (words_slot b)).reshape _ _) ⟨Or.inl rfl, trivial⟩)
/-- wait for that copy -/
def waitW (d : Dev nD) (r : Fin 4) (h b : Fin 2) : Pr PUnit :=
  Prog.lift (.waitDma2 (wSem b) (wSrc d r h) (wDst b)
    ((Memref.isWhole_whole _).wordExact_slice rfl _ (k0_off4_wordsi8 d r h))
    (((Memref.isWhole_whole _).wordExact_slice rfl _ (words_slot b)).reshape _ _))

/-- the two halves of this device's own block -/
def own0 (d : Dev nD) : Pr (IVec S1024x512 8) := do
  let v : Vec F S1024x512 .i8 ← Prog.lift (.load xM (Rect.unit (s := S4096x1024) (k0_off5 d) S1024x512.size (k0_off5_inb d)).toLoadRect (View.loadsAt_vmem h_S1024x512))
  pure (shapeCast S1024x512 v shapeCasts_S1024x512_S1024x512)
@[inherit_doc own0] def own1 (d : Dev nD) : Pr (IVec S1024x512 8) := do
  let v : Vec F S1024x512 .i8 ← Prog.lift (.load xM (Rect.unit (s := S4096x1024) (k0_off6 d) S1024x512.size (k0_off6_inb d)).toLoadRect (View.loadsAt_vmem h_S1024x512))
  pure (shapeCast S1024x512 v shapeCasts_S1024x512_S1024x512)
/-- the two halves of the block received from the device `r + 1` further on -/
def got0 (d : Dev nD) (r : Fin 3) : Pr (IVec S1024x512 8) := do
  let v : Vec F S1x1024x512 .i8 ← Prog.lift (.load cM (Rect.unit (s := S4x1024x1024) (k0_off9 d (BitVec.ofNat 32 (1 + r.val))) S1x1024x512.size (k0_off9_inb d r)).toLoadRect (View.loadsAt_vmem h_S1x1024x512))
  pure (shapeCast S1024x512 v shapeCasts_S1x1024x512_S1024x512)
@[inherit_doc got0] def got1 (d : Dev nD) (r : Fin 3) : Pr (IVec S1024x512 8) := do
  let v : Vec F S1x1024x512 .i8 ← Prog.lift (.load cM (Rect.unit (s := S4x1024x1024) (k0_off10 d (BitVec.ofNat 32 (1 + r.val))) S1x1024x512.size (k0_off10_inb d r)).toLoadRect (View.loadsAt_vmem h_S1x1024x512))
  pure (shapeCast S1024x512 v shapeCasts_S1x1024x512_S1024x512)

/-- the announcements to the three peers, and the wait for theirs -/
def meet (d : Dev nD) : Pr PUnit := do
  semSignalWord (⟨k0_dev1 d, k0_dev1_lt d⟩ : Dev nD) barS 1#32
  semSignalWord (⟨k0_dev2 d, k0_dev2_lt d⟩ : Dev nD) barS 1#32
  semSignalWord (⟨k0_dev3 d, k0_dev3_lt d⟩ : Dev nD) barS 1#32
  semWaitWord barS 3#32

/-- the three sends -/
def sends (d : Dev nD) : Pr PUnit := do
  send d ⟨k0_dev4 d, k0_dev4_lt d⟩ 0
  send d ⟨k0_dev5 d, k0_dev5_lt d⟩ 2
  send d ⟨k0_dev6 d, k0_dev6_lt d⟩ 1

/-- the strips of this device's own block -/
def ownStrips (d : Dev nD) : Pr PUnit := do
  waitW d 0 0 0
  startW d 0 1 1
  let x ← own0 d
  eight (chunkFirst 0 x)
  waitW d 0 1 1
  startW d 3 0 0
  let x ← own1 d
  eight (chunkMid 1 x)

/-- the strips of a received block, of the device `r + 1` further on, that the block of the device `n`
    further on follows -/
def midStrips (d : Dev nD) (r : Fin 3) (n : Fin 4) : Pr PUnit := do
  recv d r
  waitW d r.succ 0 0
  startW d r.succ 1 1
  let x ← got0 d r
  eight (chunkMid 0 x)
  waitW d r.succ 1 1
  startW d n 0 0
  let x ← got1 d r
  eight (chunkMid 1 x)

/-- the strips of the last received block -/
def lastStrips (d : Dev nD) : Pr PUnit := do
  recv d 1
  waitW d 2 0 0
  startW d 2 1 1
  let x ← got0 d 1
  eight (chunkMid 0 x)
  waitW d 2 1 1
  let x ← got1 d 1
  eight (chunkLast 1 x)

/-- the waits for the three sends -/
def waitSends (d : Dev nD) : Pr PUnit := do
  waitSend d 0
  waitSend d 2
  waitSend d 1

/-- the body -/
def bodyProg : Pr PUnit := do
  let d ← Prog.lift .deviceId
  meet d
  sends d
  startW d 0 0 0
  ownStrips d
  midStrips d 2 1
  midStrips d 0 2
  lastStrips d
  waitSends d

end Cert.KernelIdeal.Steps
-- ==== Proof.Views.lean ====
module

public import proofs.«01_k».proof.Proof.Prog
public import Idealize.ShloMosaic.Lib.Pipeline.Value
public import Idealize.ShloMosaic.Lib.Pipeline.ValueKit.Geometry
public import Idealize.ShloMosaic.Lib.Pointwise.Index
public import Idealize.ShloMosaic.Lib.ValueLayout

@[expose] public section

/-!
# What the body's views cover and read

The devices in ring order, the row blocks, half blocks and strips of a matrix, and for each view of the
body which elements it covers and what it reads.
-/

noncomputable section

namespace Cert.KernelIdeal.Steps

open Cert.KernelIdeal Cert.KernelIdeal.Gen Idealize.ShloMosaic

variable {F : FTy → Type}

/-! ## The devices -/

set_option backward.proofsInPublic true in
/-- the device `r + 1` further on -/
def peer (c : Dev nD) (r : Fin 3) : Dev nD := ⟨(c.val + r.val + 1) % 4, Nat.mod_lt _ (by decide)⟩

/-- Going `r + 1` and then `3 - r` devices on leads back. -/
theorem peer_rev (c : Dev nD) (r : Fin 3) : peer (peer c r) r.rev = c := by revert c r; decide
theorem peer_ne (c : Dev nD) (r : Fin 3) : peer c r ≠ c := by revert c r; decide
theorem ne_peer (c : Dev nD) (r : Fin 3) : c ≠ peer c r := by revert c r; decide
theorem peer_inj (c : Dev nD) (r r' : Fin 3) (h : peer c r = peer c r') : r = r' := by revert c r r'; decide

theorem dev1_eq (c : Dev nD) : (⟨k0_dev1 c, k0_dev1_lt c⟩ : Dev nD) = peer c 0 := by revert c; decide
theorem dev2_eq (c : Dev nD) : (⟨k0_dev2 c, k0_dev2_lt c⟩ : Dev nD) = peer c 1 := by revert c; decide
theorem dev3_eq (c : Dev nD) : (⟨k0_dev3 c, k0_dev3_lt c⟩ : Dev nD) = peer c 2 := by revert c; decide
theorem dev4_eq (c : Dev nD) : (⟨k0_dev4 c, k0_dev4_lt c⟩ : Dev nD) = peer c 0 := by revert c; decide
theorem dev5_eq (c : Dev nD) : (⟨k0_dev5 c, k0_dev5_lt c⟩ : Dev nD) = peer c 2 := by revert c; decide
theorem dev6_eq (c : Dev nD) : (⟨k0_dev6 c, k0_dev6_lt c⟩ : Dev nD) = peer c 1 := by revert c; decide

theorem outSem_eq (d : Dev nD) : outSem d = ⟨8 + d.val, by have := d.isLt; change d.val < 4 at this; change _ < 14; omega⟩ := by
  revert d; decide
theorem sendSem_eq (r : Fin 3) : sendSem r = ⟨5 + r.val, by have := r.isLt; change _ < 14; omega⟩ := by
  revert r; decide
theorem inSem_eq (d : Dev nD) (r : Fin 3) : inSem d r = outSem (peer d r) := by
  revert d r; decide

/-! ## Parts of a matrix -/

/-- row block `q` of a matrix of four row blocks -/
def rows (q : Dev nD) (X : IVec S4096x1024 8) : IVec S1024x1024 8 := fun i =>
  X (ix2 ⟨1024 * q.val + (i 0).val, by have := q.isLt; have := (i 0).isLt; change _ < 1024 at this; change q.val < 4 at *; omega⟩ (i 1))

/-- the left or the right half of a block -/
def half (h : Fin 2) (B : IVec S1024x1024 8) : IVec S1024x512 8 := fun i =>
  B (ix2 (i 0) ⟨512 * h.val + (i 1).val, by have := h.isLt; have := (i 1).isLt; change _ < 512 at this; omega⟩)

/-- half `h` of row block `q` of the weights -/
def strip (q : Dev nD) (h : Fin 2) (W : IVec S4096x8192 8) : IVec S512x8192 8 := fun i =>
  W (ix2 ⟨1024 * q.val + 512 * h.val + (i 0).val, by
    have := q.isLt; have := h.isLt; have := (i 0).isLt; change _ < 512 at this; change q.val < 4 at *; omega⟩ (i 1))

/-- the device `r` further on -/
abbrev ahead (d : Dev nD) (r : Fin 4) : Dev nD := ⟨(d.val + r.val) % 4, Nat.mod_lt _ (by decide)⟩

theorem ahead_zero (d : Dev nD) : ahead d 0 = d := by revert d; decide
theorem ahead_succ (d : Dev nD) (r : Fin 3) : ahead d r.succ = peer d r := by revert d r; decide

/-! ## What the views cover -/

/-- the elements of row block `q` of the activations -/
def xSet (q : Dev nD) : Finset S4096x1024.Idx := Finset.univ.filter fun i => (i 0).val / 1024 = q.val
/-- the elements of slot `q` -/
def cSet (q : Dev nD) : Finset S4x1024x1024.Idx := Finset.univ.filter fun i => (i 0).val = q.val
/-- the elements of weight buffer `b` -/
def bSet (b : Fin 2) : Finset S2x512x8192.Idx := Finset.univ.filter fun i => (i 0).val = b.val

theorem set_xBlk (d : Dev nD) (r : Fin 3) : (xBlk d r).view.set = xSet (peer d r) := by
  ext i
  rw [show (xBlk d r).view.set = (Rect.unit (s := S4096x1024) (k0_off3 d (BitVec.ofNat 32 (1 + r.val))) S1024x1024.size (k0_off3_inb d r)).set
    from View.set_slice_whole ..]
  rw [Rect.mem_set_unit, k0_off3_eq]
  simp only [xSet, Finset.mem_filter, Finset.mem_univ, true_and]
  have h1 : (i 1).val < 1024 := (i 1).isLt
  refine (Fin.forall_fin_two).trans ?_
  simp [peer]
  omega

theorem set_cSlot (q : Dev nD) : (cSlot q).view.set = cSet q := by
  ext i
  rw [show (cSlot q).view.set = (Rect.unit (s := S4x1024x1024) (k0_off2 q) S1x1024x1024.size (k0_off2_inb q)).set
    from (View.set_reshape ..).trans (View.set_slice_whole ..)]
  rw [Rect.mem_set_unit, k0_off2_eq]
  simp only [cSet, Finset.mem_filter, Finset.mem_univ, true_and]
  have h1 : (i 1).val < 1024 := (i 1).isLt
  have h2 : (i 2).val < 1024 := (i 2).isLt
  refine (Fin.forall_fin_succ).trans ?_
  simp [Fin.forall_fin_two]
  omega

theorem set_wDst (b : Fin 2) : (wDst b).view.set = bSet b := by
  ext i
  rw [show (wDst b).view.set = (Rect.unit (s := S2x512x8192) ![b.val, 0, 0] S1x512x8192.size (inb_slot b)).set
    from (View.set_reshape ..).trans (View.set_slice_whole ..)]
  rw [Rect.mem_set_unit]
  simp only [bSet, Finset.mem_filter, Finset.mem_univ, true_and]
  have h1 : (i 1).val < 512 := (i 1).isLt
  have h2 : (i 2).val < 8192 := (i 2).isLt
  refine (Fin.forall_fin_succ).trans ?_
  simp [Fin.forall_fin_two]
  omega

theorem xSet_disjoint (q q' : Dev nD) (h : q ≠ q') : Disjoint (xSet q) (xSet q') :=
  Finset.disjoint_left.mpr fun i hi hi' => h (Fin.ext (by
    simp only [xSet, Finset.mem_filter, Finset.mem_univ, true_and] at hi hi'; omega))
theorem cSet_disjoint (q q' : Dev nD) (h : q ≠ q') : Disjoint (cSet q) (cSet q') :=
  Finset.disjoint_left.mpr fun i hi hi' => h (Fin.ext (by
    simp only [cSet, Finset.mem_filter, Finset.mem_univ, true_and] at hi hi'; omega))
theorem bSet_disjoint (q q' : Fin 2) (h : q ≠ q') : Disjoint (bSet q) (bSet q') :=
  Finset.disjoint_left.mpr fun i hi hi' => h (Fin.ext (by
    simp only [bSet, Finset.mem_filter, Finset.mem_univ, true_and] at hi hi'; omega))
theorem xSet_cover : Finset.univ.biUnion xSet = Finset.univ := by
  ext i
  have h : (i 0).val < 4096 := (i 0).isLt
  simp only [Finset.mem_biUnion, Finset.mem_univ, true_and, iff_true]
  exact ⟨⟨(i 0).val / 1024, by change _ < 4; omega⟩, by simp [xSet]⟩
theorem cSet_cover : Finset.univ.biUnion cSet = Finset.univ := by
  ext i
  simp only [Finset.mem_biUnion, Finset.mem_univ, true_and, iff_true]
  exact ⟨i 0, by simp [cSet]⟩
theorem bSet_cover : Finset.univ.biUnion bSet = Finset.univ := by
  ext i
  simp only [Finset.mem_biUnion, Finset.mem_univ, true_and, iff_true]
  exact ⟨i 0, by simp [bSet]⟩

/-- The loads of the own block stay within it; -/
theorem own0_sub (d : Dev nD) : xM.view.setOn
    (Rect.unit (s := S4096x1024) (k0_off5 d) S1024x512.size (k0_off5_inb d)).toLoadRect.set ⊆ xSet d := by
  intro i hi
  obtain ⟨j, hj, rfl⟩ := Finset.mem_map.mp hi
  have hi := Rect.mem_set_unit.mp hj
  rw [k0_off5_eq] at hi
  have h0 := hi 0
  simp at h0
  change _ ∈ Finset.univ.filter _
  rw [Finset.mem_filter]
  refine ⟨Finset.mem_univ _, ?_⟩
  change (j 0).val / 1024 = _
  omega
@[inherit_doc own0_sub] theorem own1_sub (d : Dev nD) : xM.view.setOn
    (Rect.unit (s := S4096x1024) (k0_off6 d) S1024x512.size (k0_off6_inb d)).toLoadRect.set ⊆ xSet d := by
  intro i hi
  obtain ⟨j, hj, rfl⟩ := Finset.mem_map.mp hi
  have hi := Rect.mem_set_unit.mp hj
  rw [k0_off6_eq] at hi
  have h0 := hi 0
  simp at h0
  change _ ∈ Finset.univ.filter _
  rw [Finset.mem_filter]
  refine ⟨Finset.mem_univ _, ?_⟩
  change (j 0).val / 1024 = _
  omega
/-- those of a received block within its slot; -/
theorem got0_sub (d : Dev nD) (r : Fin 3) : cM.view.setOn
    (Rect.unit (s := S4x1024x1024) (k0_off9 d (BitVec.ofNat 32 (1 + r.val))) S1x1024x512.size (k0_off9_inb d r)).toLoadRect.set ⊆ cSet (peer d r) := by
  intro i hi
  obtain ⟨j, hj, rfl⟩ := Finset.mem_map.mp hi
  have hi := Rect.mem_set_unit.mp hj
  rw [k0_off9_eq] at hi
  have h0 := hi 0
  simp at h0
  change _ ∈ Finset.univ.filter _
  rw [Finset.mem_filter]
  refine ⟨Finset.mem_univ _, ?_⟩
  change (j 0).val = (d.val + r.val + 1) % 4
  omega
@[inherit_doc got0_sub] theorem got1_sub (d : Dev nD) (r : Fin 3) : cM.view.setOn
    (Rect.unit (s := S4x1024x1024) (k0_off10 d (BitVec.ofNat 32 (1 + r.val))) S1x1024x512.size (k0_off10_inb d r)).toLoadRect.set ⊆ cSet (peer d r) := by
  intro i hi
  obtain ⟨j, hj, rfl⟩ := Finset.mem_map.mp hi
  have hi := Rect.mem_set_unit.mp hj
  rw [k0_off10_eq] at hi
  have h0 := hi 0
  simp at h0
  change _ ∈ Finset.univ.filter _
  rw [Finset.mem_filter]
  refine ⟨Finset.mem_univ _, ?_⟩
  change (j 0).val = (d.val + r.val + 1) % 4
  omega
/-- those of a strip within its weight buffer. -/
theorem loadW_sub (b : Fin 2) : bM.view.setOn (bRect b).toLoadRect.set ⊆ bSet b := by
  intro i hi
  obtain ⟨j, hj, rfl⟩ := Finset.mem_map.mp hi
  have hi := Rect.mem_set_unit.mp hj
  have h0 := hi 0
  simp at h0
  change _ ∈ Finset.univ.filter _
  rw [Finset.mem_filter]
  refine ⟨Finset.mem_univ _, ?_⟩
  change (j 0).val = _
  omega

/-! ## What the views read -/

theorem read_xBlk (d : Dev nD) (r : Fin 3) (X : IVec S4096x1024 8) :
    (xBlk d r).view.read (Elt F) X = rows (peer d r) X := by
  funext i
  refine congrArg X (funext fun a => Fin.ext ?_)
  refine (ValueKit.view_emb_slice_whole_unit_val cc0_stg0_0 _ _ (k0_off3_inb d r) i a).trans ?_
  refine (congrArg (· + _) (congrFun (k0_off3_eq d r) a)).trans ?_
  revert a
  refine Fin.forall_fin_two.mpr ⟨?_, ?_⟩ <;> simp [peer, ix2]

theorem read_wSrc (d : Dev nD) (r : Fin 4) (h : Fin 2) (W : IVec S4096x8192 8) :
    (wSrc d r h).view.read (Elt F) W = strip (ahead d r) h W := by
  funext i
  refine congrArg W (funext fun a => Fin.ext ?_)
  refine (ValueKit.view_emb_slice_whole_unit_val main_arg1 _ _ (k0_off4_inb d r h) i a).trans ?_
  refine (congrArg (· + _) (congrFun (k0_off4_eq d r h) a)).trans ?_
  revert a
  refine Fin.forall_fin_two.mpr ⟨?_, ?_⟩ <;> simp [ix2]

/-- The first load of the own block reads its left half, -/
theorem read_own0 (d : Dev nD) (X : IVec S4096x1024 8) :
    shapeCast S1024x512 (xM.view.readAt (Elt F) (Rect.unit (s := S4096x1024) (k0_off5 d) S1024x512.size (k0_off5_inb d)).toLoadRect X)
      shapeCasts_S1024x512_S1024x512 = half 0 (rows d X) := by
  refine (shapeCast_self (s := S1024x512) _ _).trans ?_
  funext i
  refine congrArg X (funext fun a => Fin.ext ?_)
  refine (ValueKit.view_emb_slice_whole_unit_val cc0_stg0_0 _ _ (k0_off5_inb d) i a).trans ?_
  refine (congrArg (· + _) (congrFun (k0_off5_eq d) a)).trans ?_
  revert a
  refine Fin.forall_fin_two.mpr ⟨?_, ?_⟩ <;> simp [ix2]
/-- and the second its right half. -/
theorem read_own1 (d : Dev nD) (X : IVec S4096x1024 8) :
    shapeCast S1024x512 (xM.view.readAt (Elt F) (Rect.unit (s := S4096x1024) (k0_off6 d) S1024x512.size (k0_off6_inb d)).toLoadRect X)
      shapeCasts_S1024x512_S1024x512 = half 1 (rows d X) := by
  refine (shapeCast_self (s := S1024x512) _ _).trans ?_
  funext i
  refine congrArg X (funext fun a => Fin.ext ?_)
  refine (ValueKit.view_emb_slice_whole_unit_val cc0_stg0_0 _ _ (k0_off6_inb d) i a).trans ?_
  refine (congrArg (· + _) (congrFun (k0_off6_eq d) a)).trans ?_
  revert a
  refine Fin.forall_fin_two.mpr ⟨?_, ?_⟩ <;> simp [ix2]

/-- A slot read as a matrix, -/
theorem read_cSlot (q : Dev nD) (f : IVec S4x1024x1024 8) (i : S1024x1024.Idx) :
    (cSlot q).view.read (Elt F) f i = f (ix3 q (i 0) (i 1)) := by
  refine (congrFun (Memref.read_squeeze_slice (Val := Elt F) cM _ (fun _ => rfl) squeezes_S1x1024x1024_S1024x1024
    (by decide : S1x1024x1024.ShapeCasts S1024x1024) (f : cM.view.ty.Contents (Elt F))) i).trans ?_
  refine (shapeCast_dropUnit_apply ![1024, 1024] _ _ i).trans ?_
  refine congrArg f (funext fun a => Fin.ext ?_)
  refine (ValueKit.view_emb_slice_whole_unit_val cc0_scratch0 _ _ (k0_off2_inb q) _ a).trans ?_
  refine (congrArg (· + _) (congrFun (k0_off2_eq q) a)).trans ?_
  match a with
  | 0 => rfl
  | 1 => exact Nat.zero_add _
  | 2 => exact Nat.zero_add _

/-- the first load of it, -/
theorem read_got0 (d : Dev nD) (r : Fin 3) (f : IVec S4x1024x1024 8) :
    shapeCast S1024x512 (cM.view.readAt (Elt F) (Rect.unit (s := S4x1024x1024) (k0_off9 d (BitVec.ofNat 32 (1 + r.val))) S1x1024x512.size (k0_off9_inb d r)).toLoadRect f)
      shapeCasts_S1x1024x512_S1024x512 = half 0 ((cSlot (peer d r)).view.read (Elt F) f) := by
  funext i
  rw [half, read_cSlot]
  refine (shapeCast_dropUnit_apply ![1024, 512] _ _ i).trans ?_
  refine congrArg f (funext fun a => Fin.ext ?_)
  refine (ValueKit.view_emb_slice_whole_unit_val cc0_scratch0 _ _ (k0_off9_inb d r) _ a).trans ?_
  refine (congrArg (· + _) (congrFun (k0_off9_eq d r) a)).trans ?_
  match a with
  | 0 => rfl
  | 1 => exact Nat.zero_add _
  | 2 => rfl
/-- and the second. -/
theorem read_got1 (d : Dev nD) (r : Fin 3) (f : IVec S4x1024x1024 8) :
    shapeCast S1024x512 (cM.view.readAt (Elt F) (Rect.unit (s := S4x1024x1024) (k0_off10 d (BitVec.ofNat 32 (1 + r.val))) S1x1024x512.size (k0_off10_inb d r)).toLoadRect f)
      shapeCasts_S1x1024x512_S1024x512 = half 1 ((cSlot (peer d r)).view.read (Elt F) f) := by
  funext i
  rw [half, read_cSlot]
  refine (shapeCast_dropUnit_apply ![1024, 512] _ _ i).trans ?_
  refine congrArg f (funext fun a => Fin.ext ?_)
  refine (ValueKit.view_emb_slice_whole_unit_val cc0_scratch0 _ _ (k0_off10_inb d r) _ a).trans ?_
  refine (congrArg (· + _) (congrFun (k0_off10_eq d r) a)).trans ?_
  match a with
  | 0 => rfl
  | 1 => exact Nat.zero_add _
  | 2 => rfl

/-- The load of a weight buffer reads the strip copied into it. -/
theorem read_loadW (b : Fin 2) (f : IVec S2x512x8192 8) :
    shapeCast S512x8192 (bM.view.readAt (Elt F) (bRect b).toLoadRect f) shapeCasts_S1x512x8192_S512x8192 =
      (wDst b).view.read (Elt F) f := rfl

/-! ## The chunks of the result -/

theorem oRect_disjoint (k k' : Fin 8) (h : k ≠ k') : Disjoint (oRect k).set (oRect k').set := by
  refine Rect.unit_disjoint (s := S1024x8192) 1 ?_
  have : k.val ≠ k'.val := fun e => h (Fin.ext e)
  simp
  omega

end Cert.KernelIdeal.Steps
-- ==== Proof.Protocol.lean ====
module

public import proofs.«01_k».proof.Proof.Views
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

/-!
# The protocol between the devices

Every device announces itself to the three others and then sends each of them one row block. In the
announcement to a peer it hands over the slot that the peer fills; the block's arrival hands the filled
slot back, and the send's completion the block that was read. All of it is one round on each cell.
-/

noncomputable section

namespace Cert.KernelIdeal.Steps

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The ghost state: the staging's, the rounds between the devices (a duty is named by the device that
    pays it), and the counters of the weight copies -/

abbrev UB : Type := URounds (GSem nD τ sig) (Dev nD)
abbrev UU : Type := UR sig nD τ × (UB × Counters)

local notation "𝕄" => MT nD τ sig Unit (Elt F) ℕ UU ℕ

abbrev EP : Emb (UR sig nD τ) (MT nD τ sig Unit (Elt F) ℕ UU ℕ) := embL
/-- the rounds' part of the ghost state -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
/-- the counters' part -/
abbrev EC : UEmb Counters (MT nD τ sig Unit (Elt F) ℕ UU ℕ) := countersEmb

/-! ## The cells -/

abbrev barCell (c : Dev nD) : GSem nD τ sig := ((c : Thread nD τ), .reg barS)
abbrev sendCell (c : Dev nD) (r : Fin 3) : GSem nD τ sig := ((c : Thread nD τ), .dma (sendSem r))
/-- where the block that device `j` sends to device `c` is announced -/
abbrev recvCell (c j : Dev nD) : GSem nD τ sig := ((c : Thread nD τ), .dma (outSem j))

/-- a device's cells, numbered: the announcements, the four sends, the four arrivals -/
def csem (k : Fin 9) : SemLoc sig :=
  if k = 0 then .reg barS else .dma ⟨k.val + 3, by have := k.isLt; change _ < 14; omega⟩
abbrev kcell (ck : Dev nD × Fin 9) : GSem nD τ sig := ((ck.1 : Thread nD τ), csem ck.2)
abbrev kSend (r : Fin 3) : Fin 9 := ⟨2 + r.val, by omega⟩
abbrev kRecv (j : Dev nD) : Fin 9 := ⟨5 + j.val, by have := j.isLt; change j.val < 4 at this; omega⟩

theorem csem_zero : csem 0 = .reg barS := rfl
theorem csem_send (r : Fin 3) : csem (kSend r) = .dma (sendSem r) := by
  rw [sendSem_eq]; revert r; decide
theorem csem_recv (j : Dev nD) : csem (kRecv j) = .dma (outSem j) := by
  rw [outSem_eq]; revert j; decide

/-- the credit of one row block -/
abbrev N : ℕ := (cSlot 0).view.dmaCredit
theorem N_pos : 0 < N := View.dmaCredit_pos _ (by decide)
theorem amount_cSlot (d : Dev nD) (s : DmaSem sig) : (cSlot d).view.amount (.dma s) = N := rfl

/-! ## What is handed over -/

section Sched

variable (X : Dev nD → IVec S4096x1024 8)

/-- In the announcement to `c`, the device `p` hands over its slot for `c`'s block. -/
def barPay (c p : Dev nD) : sProp 𝕄 :=
  iprop(∃ f, (cSlot c).view.loc (p : Thread nD τ) ↦[(cSlot c).view.set]{fullShare} f)
/-- A completed send hands back the block sent. -/
def sendPay (c : Dev nD) (r : Fin 3) : sProp 𝕄 :=
  (xBlk c r).view.loc (c : Thread nD τ) ↦[(xBlk c r).view.set]{fullShare} (X c : Buf (Elt F) ((xBlk c r).view.loc (c : Thread nD τ)))
/-- An arrival at `c` hands over the slot filled with row block `c` of the sender's activations. -/
def recvPay (c j : Dev nD) : sProp 𝕄 :=
  iprop(∃ f, ⌜(cSlot j).view.read (Elt F) f = rows c (X j)⌝ ∗
    ((cSlot j).view.loc (c : Thread nD τ) ↦[(cSlot j).view.set]{fullShare} f))

instance barPay_storable (c p : Dev nD) : BI.Storable (upEmb : UEmb _ 𝕄) (barPay (F := F) c p) := by
  unfold barPay; infer_instance
instance sendPay_storable (c : Dev nD) (r : Fin 3) : BI.Storable (upEmb : UEmb _ 𝕄) (sendPay (F := F) X c r) := by
  unfold sendPay; infer_instance
instance recvPay_storable (c j : Dev nD) : BI.Storable (upEmb : UEmb _ 𝕄) (recvPay (F := F) X c j) := by
  unfold recvPay; infer_instance

/-- who pays into a cell of device `c` -/
def payers (c : Dev nD) : SemLoc sig → Finset (Dev nD)
  | .reg _ => Finset.univ.erase c
  | .dma s => if 5 ≤ s.val ∧ s.val < 8 then {c} else Finset.univ.filter fun j => 8 + j.val = s.val ∧ j ≠ c

/-- One round: everybody else pays one unit into a device's announcements, the device itself the block's
    credit into each of its sends, and every sender that credit into its arrival. -/
def Rd : Rounds.Schedule (GSem nD τ sig) (Dev nD) 𝕄 where
  duties g r := if r = 0 then payers g.1.1 g.2 else ∅
  unitless _ := False
  amount g _ _ := match g.2 with
    | .reg _ => 1
    | .dma _ => N
  payload g _ p := match g.2 with
    | .reg _ => barPay g.1.1 p
    | .dma s => if 5 ≤ s.val ∧ s.val < 8 then sendPay X g.1.1 ⟨(s.val - 5) % 3, Nat.mod_lt _ (by decide)⟩ else recvPay X g.1.1 p
  amount_pos g _ _ _ := by
    rcases g with ⟨t, s | s⟩
    · exact Nat.one_pos
    · exact N_pos

instance Rd_storable (g : GSem nD τ sig) (r : ℕ) (d : Dev nD) :
    BI.Storable (upEmb : UEmb _ 𝕄) ((Rd (F := F) X).payload g r d) := by
  rcases g with ⟨t, s | s⟩
  · exact barPay_storable _ _
  · show BI.Storable upEmb (if 5 ≤ s.val ∧ s.val < 8 then sendPay X t.1 _ else recvPay X t.1 d)
    split <;> infer_instance

variable (c : Dev nD)

theorem duties_bar : (Rd (F := F) X).duties (barCell c) 0 = Finset.univ.erase c := rfl
theorem duties_send (r : Fin 3) : (Rd (F := F) X).duties (sendCell c r) 0 = {c} := by
  show payers c (.dma (sendSem r)) = {c}
  rw [sendSem_eq]; revert c r; decide
theorem duties_recv (j : Dev nD) (h : j ≠ c) : (Rd (F := F) X).duties (recvCell c j) 0 = {j} := by
  show payers c (.dma (outSem j)) = {j}
  rw [outSem_eq]; revert c j; decide
theorem duties_later (g : GSem nD τ sig) : ∀ r, 1 ≤ r → (Rd (F := F) X).duties g r = ∅ :=
  fun r hr => if_neg (by omega)
/-- The cell of the send to itself and that of an arrival from itself are not used. -/
theorem duties_self : ∀ r, 0 ≤ r → (Rd (F := F) X).duties (kcell (c, kRecv c)) r = ∅ := fun r _ => by
  by_cases h : r = 0
  · subst h
    show payers c (csem (kRecv c)) = ∅
    rw [csem_recv, outSem_eq]; revert c; decide
  · exact if_neg h
@[inherit_doc duties_self] theorem duties_one : ∀ r, 0 ≤ r → (Rd (F := F) X).duties (kcell (c, 1)) r = ∅ := fun r _ => by
  by_cases h : r = 0
  · subst h
    show payers c (csem 1) = ∅
    revert c; decide
  · exact if_neg h

theorem expect_bar : (Rd (F := F) X).expect (barCell c) 0 = 3 := by
  unfold Schedule.expect Schedule.amountOf
  rw [duties_bar]
  show ∑ _d ∈ Finset.univ.erase c, 1 = 3
  revert c; decide
theorem expect_send (r : Fin 3) : (Rd (F := F) X).expect (sendCell c r) 0 = N := by
  unfold Schedule.expect Schedule.amountOf; rw [duties_send, Finset.sum_singleton]; rfl
theorem expect_recv (j : Dev nD) (h : j ≠ c) : (Rd (F := F) X).expect (recvCell c j) 0 = N := by
  unfold Schedule.expect Schedule.amountOf; rw [duties_recv X c j h, Finset.sum_singleton]; rfl

theorem payload_bar (p : Dev nD) : (Rd (F := F) X).payload (barCell c) 0 p = barPay c p := rfl
theorem payload_send (r : Fin 3) (p : Dev nD) : (Rd (F := F) X).payload (sendCell c r) 0 p = sendPay X c r := by
  show (if 5 ≤ (sendSem r).val ∧ (sendSem r).val < 8 then sendPay X c ⟨((sendSem r).val - 5) % 3, Nat.mod_lt _ (by decide)⟩
    else recvPay X c p) = _
  have h : (sendSem r).val = 5 + r.val := congrArg Fin.val (sendSem_eq r)
  rw [if_pos (by omega)]
  exact congrArg (sendPay X c) (Fin.ext (by show ((sendSem r).val - 5) % 3 = r.val; omega))
theorem payload_recv (j p : Dev nD) : (Rd (F := F) X).payload (recvCell c j) 0 p = recvPay X c p := by
  show (if 5 ≤ (outSem j).val ∧ (outSem j).val < 8 then _ else recvPay X c p) = _
  have h : (outSem j).val = 8 + j.val := congrArg Fin.val (outSem_eq j)
  exact if_neg (by omega)

theorem erase_eq : Finset.univ.erase c = {peer c 0, peer c 1, peer c 2} := by revert c; decide

/-- What a device has after the announcements of the others: their slots for its blocks. -/
theorem rest_bar : bigSep ((Rd (F := F) X).duties (barCell c) 0 \ ∅) (fun d => (Rd (F := F) X).payload (barCell c) 0 d) =
    iprop(barPay c (peer c 0) ∗ barPay c (peer c 1) ∗ barPay c (peer c 2)) := by
  rw [Finset.sdiff_empty, duties_bar, erase_eq, bigSep_eq_bigSepL_of_eq [peer c 0, peer c 1, peer c 2]
    (by revert c; decide) (by revert c; decide)]
  rfl
theorem rest_send (r : Fin 3) : bigSep ((Rd (F := F) X).duties (sendCell c r) 0 \ ∅) (fun d => (Rd (F := F) X).payload (sendCell c r) 0 d) =
    sendPay X c r := by
  rw [Finset.sdiff_empty, duties_send, bigSep_singleton, payload_send]
theorem rest_recv (j : Dev nD) (h : j ≠ c) :
    bigSep ((Rd (F := F) X).duties (recvCell c j) 0 \ ∅) (fun d => (Rd (F := F) X).payload (recvCell c j) 0 d) = recvPay X c j := by
  rw [Finset.sdiff_empty, duties_recv X c j h, bigSep_singleton, payload_recv]

end Sched

/-! ## What each device owes at launch, and the levels -/

/-- what remains owed after the announcements: the three blocks, the last sent first -/
def OS (c : Dev nD) : CellTallies nD τ sig Unit :=
  tallyAt (recvCell (peer c 1) c) () N + tallyAt (recvCell (peer c 2) c) () N + tallyAt (recvCell (peer c 0) c) () N
/-- all that a device owes: the blocks and the three announcements -/
def O₀ (c : Dev nD) : CellTallies nD τ sig Unit :=
  OS c + tallyAt (barCell (peer c 2)) () 1 + tallyAt (barCell (peer c 1)) () 1 + tallyAt (barCell (peer c 0)) () 1

def L (g : GSem nD τ sig) : Finset Unit := if g.1.2 = .tc then {()} else ∅
/-- announcements come before arrivals, and everything else before both -/
def lv (g : GSem nD τ sig) (_ : Unit) : ℕ := match g.2 with
  | .reg _ => 1
  | .dma s => if 8 ≤ s.val ∧ s.val < 12 then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_recv (c j : Dev nD) : lv (recvCell c j) () = 2 := by
  show (if 8 ≤ (outSem j).val ∧ (outSem j).val < 12 then 2 else 0) = 2
  have h : (outSem j).val = 8 + j.val := congrArg Fin.val (outSem_eq j)
  have := j.isLt; change j.val < 4 at this
  exact if_pos (by omega)

theorem tally_pos {g g' : GSem nD τ sig} {u u' : Unit} {n : ℕ} (h : 0 < tallyAt g u n g' u') : g' = g := by
  rw [tallyAt_apply] at h
  by_contra hn
  rw [if_neg fun h' => hn h'.1] at h
  exact Nat.lt_irrefl 0 h

theorem add_pos_cases {O O' : CellTallies nD τ sig Unit} {g : GSem nD τ sig} {u : Unit} (h : 0 < (O + O') g u) :
    0 < O g u ∨ 0 < O' g u := by
  rw [Pi.add_apply, Finsupp.add_apply] at h; omega

theorem OS_pos {c : Dev nD} {g : GSem nD τ sig} {u : Unit} (h : 0 < OS c g u) : ∃ r, g = recvCell (peer c r) c := by
  unfold OS at h
  rcases add_pos_cases h with h | h
  · rcases add_pos_cases h with h | h
    · exact ⟨1, tally_pos h⟩
    · exact ⟨2, tally_pos h⟩
  · exact ⟨0, tally_pos h⟩

theorem O₀_pos {c : Dev nD} {g : GSem nD τ sig} {u : Unit} (h : 0 < O₀ c g u) :
    ∃ r, g = recvCell (peer c r) c ∨ g = barCell (peer c r) := by
  unfold O₀ at h
  rcases add_pos_cases h with h | h
  · rcases add_pos_cases h with h | h
    · rcases add_pos_cases h with h | h
      · exact (OS_pos h).imp fun r => .inl
      · exact ⟨2, .inr (tally_pos h)⟩
    · exact ⟨1, .inr (tally_pos h)⟩
  · exact ⟨0, .inr (tally_pos h)⟩

/-- A copy that is no arrival may be waited for whatever a device owes, -/
theorem mayWait_low (c : Dev nD) (q : DmaSem sig) (hq : ¬ (8 ≤ q.val ∧ q.val < 12)) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by obtain ⟨r, rfl | rfl⟩ := O₀_pos hg <;> exact Finset.mem_singleton_self _)
      (fun p hp => by rw [Finset.mem_singleton.mp hp]; exact (if_neg hq).le)
      (fun g u hg => by
        obtain ⟨r, rfl | rfl⟩ := O₀_pos hg
        · exact (lv_recv _ _).symm ▸ Nat.two_pos
        · exact Nat.one_pos)
  · rw [MayWait_zero]; iintro -; iempintro

/-- and the announcements while it owes blocks only. -/
theorem mayWait_bar (c : Dev nD) : (levAts L lv : sProp 𝕄) ⊢ MayWait (c : Thread nD τ) (.reg barS) () (OS c) :=
  MayOwe.of_cut (L := L) (lev := lv) 1 (fun p hp => by rw [Finset.mem_singleton.mp hp, L_tc]; exact Finset.mem_singleton_self _)
    (fun g u hg => by obtain ⟨r, rfl⟩ := OS_pos hg; exact Finset.mem_singleton_self _)
    (fun p hp => by rw [Finset.mem_singleton.mp hp]; exact le_refl 1)
    (fun g u hg => by obtain ⟨r, rfl⟩ := OS_pos hg; exact (lv_recv _ _).symm ▸ Nat.lt_succ_self 1)

end Cert.KernelIdeal.Steps
-- ==== Proof.Strips.lean ====
module

public import proofs.«01_k».proof.Proof.Protocol

@[expose] public section

/-!
# The local steps of the body

What a device holds of its own buffers between two steps, and the run of each step that touches only them:
copying a strip of weights, loading half a block, and the eight chunks of a strip.
-/

noncomputable section

namespace Cert.KernelIdeal.Steps

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "Pr" => Prog (TpuEff nD τ sig (Elt F) Λ₀ Proc.tc)

abbrev 𝒱₀ : Variants := Variants.none

/-- the weakest precondition of a part of device `c`'s body -/
abbrev run (c : Dev nD) {α : Type} (p : Pr α) (Q : α → sProp 𝕄) : sProp 𝕄 :=
  wp frame (wpE (defs₀ (F := F)) 𝒱₀ (c : Thread nD τ) none) Set.univ p Q

variable (c : Dev nD)

/-- A part followed by another. -/
theorem run_bind {α β : Type} (p : Pr α) (k : α → Pr β) (Q : β → sProp 𝕄) :
    run c (p >>= k) Q = run c p fun a => run c (k a) Q := wp_bind ..

/-! ## What is held -/

/-- all of a buffer of device `c` at the contents `f` -/
abbrev whole (b : Ref sig .tc) (f : b.ty.Contents (Elt F)) : sProp 𝕄 :=
  ((c : Thread nD τ).loc b) ↦{fullShare} (f : Buf (Elt F) ((c : Thread nD τ).loc b))

/-- weight buffer `b`, at any contents -/
def free (b : Fin 2) : sProp 𝕄 := iprop(∃ f, ((c : Thread nD τ).loc cc0_scratch1) ↦[bSet b]{fullShare} f)
/-- weight buffer `b`, holding the strip `v` -/
def holds (b : Fin 2) (v : IVec S512x8192 8) : sProp 𝕄 :=
  iprop(∃ f : Buf (Elt F) ((c : Thread nD τ).loc cc0_scratch1), ⌜(wDst b).view.read (Elt F) f = v⌝ ∗
    (((c : Thread nD τ).loc cc0_scratch1) ↦[bSet b]{fullShare} f))
/-- the copy of the strip `v` into weight buffer `b` on its way, and what it leaves of the weights `W` -/
def flying (W : IVec S4096x8192 8) (b : Fin 2) (v : IVec S512x8192 8) : sProp 𝕄 :=
  iprop(∃ D R, Transfers.Flight (EC (F := F)) (c : Thread nD τ) (.dma (wSem b)) () (wDst b).view.dmaCredit D ∗ R
    ∗ ⌜iprop(D ∗ R) ⊢ iprop(holds c b v ∗ whole c main_arg1 W)⌝)
/-- the semaphore of weight buffer `b` at zero -/
def idle (b : Fin 2) : sProp 𝕄 := semVal ((c : Thread nD τ), .dma (wSem b)) 0
/-- device `c` owes `O`, whatever it has waited for -/
def owing (O : CellTallies nD τ sig Unit) : sProp 𝕄 := iprop(∃ Ws, owes (c : Thread nD τ) O Ws)

/-- the result, its chunk `k` being `A k` -/
def outIs (A : Fin 8 → FVec F S1024x1024 .f32) : sProp 𝕄 :=
  iprop(∃ f : Buf (Elt F) ((c : Thread nD τ).loc cc0_stg3_0), ⌜∀ k, (oM.access (oRect k)).read (Elt F) f = A k⌝ ∗
    (((c : Thread nD τ).loc cc0_stg3_0) ↦{fullShare} f))

omit [FloatOps F] in
theorem holds_free (b : Fin 2) (v : IVec S512x8192 8) : holds c b v ⊢ (free c b : sProp 𝕄) := by
  unfold holds free
  iintro ⟨%f, -, H⟩
  iexists f; iexact H

/-! ## The copies of the weights -/

/-- Starting a copy: the weights and a free buffer for a copy on its way. -/
theorem startW_run (r : Fin 4) (h b : Fin 2) (W : IVec S4096x8192 8) (K : PUnit → sProp 𝕄) :
    iprop(whole c main_arg1 W ∗ free c b ∗ idle c b ∗ (flying c W b (strip (ahead c r) h W) -∗ K ⟨⟩))
      ⊢ run c (startW c r h b) K := by
  unfold free idle startW Prog.lift
  iintro ⟨Hw, ⟨%f, Hb⟩, Hs, Hk⟩
  ihave Hw2 := (pointsTo_split_subset (ℓ := (c : Thread nD τ).loc main_arg1) (I := (wSrc c r h).view.set) (Finset.subset_univ _)).1 $$ Hw
  icases Hw2 with ⟨Hw, Hrest⟩
  iapply (Transfers.wp_dmaLocal EC 𝒱₀ (c : Thread nD τ) none (src := wSrc c r h) (dst := wDst b) (via := .same) (sm := .dma (wSem b))
    (Sd := bSet b) () (wDst b).view.dmaCredit rfl (View.dmaCredit_pos _ (by decide)) (set_wDst b).subset) $$ [Hw Hb Hs]
  · isplitl [Hw]; · iexact Hw
    isplitl [Hb]; · iexact Hb
    iexact Hs
  iintro Hf
  rw [wp_ret]; imodintro
  iapply Hk
  unfold flying
  iexists _; iexists _
  isplitl [Hf]; · iexact Hf
  isplitl [Hrest]; · iexact Hrest
  ipureintro
  unfold holds
  iintro ⟨⟨Hd, Hs⟩, Hr⟩
  isplitl [Hd]
  · iexists _
    isplitr
    rotate_left
    · iexact Hd
    · ipureintro
      exact (View.read_write_univ _ _).trans (read_wSrc c r h W)
  · iapply (pointsTo_split_subset (ℓ := (c : Thread nD τ).loc main_arg1) (I := (wSrc c r h).view.set) (Finset.subset_univ _)).2
    isplitl [Hs]; · iexact Hs
    iexact Hr

/-- Waiting for it. -/
theorem waitW_run (r : Fin 4) (h b : Fin 2) (W : IVec S4096x8192 8) (v : IVec S512x8192 8) (K : PUnit → sProp 𝕄) :
    iprop(flying c W b v ∗ owing c 0 ∗ (iprop(holds c b v ∗ whole c main_arg1 W ∗ idle c b ∗ owing c 0) -∗ K ⟨⟩))
      ⊢ run c (waitW c r h b) K := by
  unfold flying idle owing waitW Prog.lift
  iintro ⟨⟨%D, %R, Hf, HR, %hD⟩, ⟨%Ws, Ho⟩, Hk⟩
  iapply (Transfers.wp_waitLocal EC 𝒱₀ (c : Thread nD τ) none (dstw := wDst b) () rfl) $$ [Hf Ho]
  · isplitl [Hf]; · iexact Hf
    iexact Ho
  iintro ⟨HD, Hs, Ho⟩
  rw [wp_ret]; imodintro
  iapply Hk
  ihave H := hD $$ [HD HR]
  · isplitl [HD]; · iexact HD
    iexact HR
  icases H with ⟨H1, H2⟩
  isplitl [H1]; · iexact H1
  isplitl [H2]; · iexact H2
  isplitl [Hs]; · iexact Hs
  iexists _; iexact Ho

/-! ## The halves of a block -/

/-- The first load of the own block gives its left half, -/
theorem own0_run (X : IVec S4096x1024 8) (K : IVec S1024x512 8 → sProp 𝕄) :
    iprop((((c : Thread nD τ).loc cc0_stg0_0) ↦[xSet c]{fullShare} (X : Buf (Elt F) ((c : Thread nD τ).loc cc0_stg0_0)))
        ∗ ((((c : Thread nD τ).loc cc0_stg0_0) ↦[xSet c]{fullShare} (X : Buf (Elt F) ((c : Thread nD τ).loc cc0_stg0_0))) -∗ K (half 0 (rows c X))))
      ⊢ run c (own0 c) K := by
  unfold own0
  simp only [Prog.lift, Prog.bind_op, Prog.bind_ret, Prog.pure_eq_ret]
  iintro ⟨H, Hk⟩
  iapply (wp_load 𝒱₀ (c : Thread nD τ) none Set.univ (m := xM) (own0_sub c)) $$ H; iintro H
  rw [wp_ret]; imodintro
  rw [read_own0]
  iapply Hk; iexact H
/-- and the second its right half. -/
theorem own1_run (X : IVec S4096x1024 8) (K : IVec S1024x512 8 → sProp 𝕄) :
    iprop((((c : Thread nD τ).loc cc0_stg0_0) ↦[xSet c]{fullShare} (X : Buf (Elt F) ((c : Thread nD τ).loc cc0_stg0_0)))
        ∗ ((((c : Thread nD τ).loc cc0_stg0_0) ↦[xSet c]{fullShare} (X : Buf (Elt F) ((c : Thread nD τ).loc cc0_stg0_0))) -∗ K (half 1 (rows c X))))
      ⊢ run c (own1 c) K := by
  unfold own1
  simp only [Prog.lift, Prog.bind_op, Prog.bind_ret, Prog.pure_eq_ret]
  iintro ⟨H, Hk⟩
  iapply (wp_load 𝒱₀ (c : Thread nD τ) none Set.univ (m := xM) (own1_sub c)) $$ H; iintro H
  rw [wp_ret]; imodintro
  rw [read_own1]
  iapply Hk; iexact H

/-- slot `q` of device `c`, holding the block `B` -/
def slotIs (q : Dev nD) (B : IVec S1024x1024 8) : sProp 𝕄 :=
  iprop(∃ f, ⌜(cSlot q).view.read (Elt F) f = B⌝ ∗ (((c : Thread nD τ).loc cc0_scratch0) ↦[cSet q]{fullShare} f))

/-- The first load of a received block gives its left half, -/
theorem got0_run (r : Fin 3) (B : IVec S1024x1024 8) (K : IVec S1024x512 8 → sProp 𝕄) :
    iprop(slotIs c (peer c r) B ∗ (slotIs c (peer c r) B -∗ K (half 0 B))) ⊢ run c (got0 c r) K := by
  unfold got0 slotIs
  simp only [Prog.lift, Prog.bind_op, Prog.bind_ret, Prog.pure_eq_ret]
  iintro ⟨⟨%f, %hf, H⟩, Hk⟩
  iapply (wp_load 𝒱₀ (c : Thread nD τ) none Set.univ (m := cM) (got0_sub c r)) $$ H; iintro H
  rw [wp_ret]; imodintro
  rw [read_got0, hf]
  iapply Hk
  iexists f
  isplitr; · ipureintro; exact hf
  iexact H
/-- and the second its right half. -/
theorem got1_run (r : Fin 3) (B : IVec S1024x1024 8) (K : IVec S1024x512 8 → sProp 𝕄) :
    iprop(slotIs c (peer c r) B ∗ (slotIs c (peer c r) B -∗ K (half 1 B))) ⊢ run c (got1 c r) K := by
  unfold got1 slotIs
  simp only [Prog.lift, Prog.bind_op, Prog.bind_ret, Prog.pure_eq_ret]
  iintro ⟨⟨%f, %hf, H⟩, Hk⟩
  iapply (wp_load 𝒱₀ (c : Thread nD τ) none Set.univ (m := cM) (got1_sub c r)) $$ H; iintro H
  rw [wp_ret]; imodintro
  rw [read_got1, hf]
  iapply Hk
  iexists f
  isplitr; · ipureintro; exact hf
  iexact H

/-! ## The chunks of a strip -/

/-- Loading a weight buffer gives the strip it holds. -/
theorem loadW_run (b : Fin 2) (v : IVec S512x8192 8) (K : IVec S512x8192 8 → sProp 𝕄) :
    iprop(holds c b v ∗ (holds c b v -∗ K v)) ⊢ run c (loadW b) K := by
  unfold loadW holds
  simp only [Prog.lift, Prog.bind_op, Prog.bind_ret, Prog.pure_eq_ret]
  iintro ⟨⟨%f, %hf, H⟩, Hk⟩
  iapply (wp_load 𝒱₀ (c : Thread nD τ) none Set.univ (m := bM) (loadW_sub b)) $$ H; iintro H
  rw [wp_ret]; imodintro
  rw [read_loadW, hf]
  iapply Hk
  iexists f
  isplitr; · ipureintro; exact hf
  iexact H

/-- Loading a chunk of the result gives that chunk. -/
theorem loadOut_run (k : Fin 8) (A : Fin 8 → FVec F S1024x1024 .f32) (K : Vec F S1024x1024 .f32 → sProp 𝕄) :
    iprop(outIs c A ∗ (outIs c A -∗ K (A k))) ⊢ run c (loadOut k) K := by
  unfold loadOut outIs Prog.lift
  iintro ⟨⟨%f, %hf, H⟩, Hk⟩
  iapply (wp_load 𝒱₀ (c : Thread nD τ) none Set.univ (m := oM) (Finset.subset_univ _)) $$ H; iintro H
  rw [wp_ret]; imodintro
  rw [View.readAt_rect, hf k]
  iapply Hk
  iexists f
  isplitr; · ipureintro; exact hf
  iexact H

/-- Storing a chunk of the result changes that chunk and no other. -/
theorem storeOut_run (k : Fin 8) (v : FVec F S1024x1024 .f32) (A : Fin 8 → FVec F S1024x1024 .f32) (K : PUnit → sProp 𝕄) :
    iprop(outIs c A ∗ (outIs c (Function.update A k v) -∗ K ⟨⟩)) ⊢ run c (storeOut k v) K := by
  unfold storeOut outIs Prog.lift
  iintro ⟨⟨%f, %hf, H⟩, Hk⟩
  iapply (wp_store 𝒱₀ (c : Thread nD τ) none Set.univ (m := oM) (r := oRect k) (Mk := Finset.univ) (Finset.subset_univ _)) $$ H; iintro H
  rw [wp_ret]; imodintro
  iapply Hk
  iexists _
  isplitr
  rotate_left
  · iexact H
  · ipureintro
    intro k'
    by_cases h : k' = k
    · subst h
      rw [Function.update_self]
      exact View.read_write_univ _ _
    · rw [Function.update_of_ne h, ← hf k']
      refine View.read_slice_write_slice_of_disjoint _ _ _ _ _ ?_
      rw [View.setOn_univ, View.set_slice_whole, View.set_slice_whole]
      exact oRect_disjoint k' k h

/-- A chunk of the first strip -/
theorem chunkFirst_run (b : Fin 2) (x : IVec S1024x512 8) (v : IVec S512x8192 8) (k : Fin 8) (A : Fin 8 → FVec F S1024x1024 .f32)
    (K : PUnit → sProp 𝕄) :
    iprop(holds c b v ∗ outIs c A ∗ (iprop(holds c b v ∗ outIs c (Function.update A k (part k x v))) -∗ K ⟨⟩))
      ⊢ run c (chunkFirst b x k) K := by
  unfold chunkFirst
  iintro ⟨Hw, Ho, Hk⟩
  rw [run_bind]; iapply (loadW_run c b v); isplitl [Hw]; · iexact Hw
  iintro Hw
  rw [run_bind]; iapply (loadOut_run c k A); isplitl [Ho]; · iexact Ho
  iintro Ho
  iapply (storeOut_run c k (part k x v) A); isplitl [Ho]; · iexact Ho
  iintro Ho
  iapply Hk; isplitl [Hw]; · iexact Hw
  iexact Ho
/-- of a middle strip -/
theorem chunkMid_run (b : Fin 2) (x : IVec S1024x512 8) (v : IVec S512x8192 8) (k : Fin 8) (A : Fin 8 → FVec F S1024x1024 .f32)
    (K : PUnit → sProp 𝕄) :
    iprop(holds c b v ∗ outIs c A ∗ (iprop(holds c b v ∗ outIs c (Function.update A k (accum k x v (A k)))) -∗ K ⟨⟩))
      ⊢ run c (chunkMid b x k) K := by
  unfold chunkMid
  iintro ⟨Hw, Ho, Hk⟩
  rw [run_bind]; iapply (loadW_run c b v); isplitl [Hw]; · iexact Hw
  iintro Hw
  rw [run_bind]; iapply (loadOut_run c k A); isplitl [Ho]; · iexact Ho
  iintro Ho
  rw [run_bind]; iapply (loadOut_run c k A); isplitl [Ho]; · iexact Ho
  iintro Ho
  iapply (storeOut_run c k (accum k x v (A k)) A); isplitl [Ho]; · iexact Ho
  iintro Ho
  iapply Hk; isplitl [Hw]; · iexact Hw
  iexact Ho

/-- what the two scales' buffers hold, and their words -/
def scales (sx sw : Vec F S1 .f32) : sProp 𝕄 := iprop(whole c cc0_stg1_0 sx ∗ whole c cc0_stg2_0 sw)
/-- the word of a scale -/
def word (s : Vec F S1 .f32) : Elt F .f32 := s (Shape.Idx.first (numel1_S1.symm ▸ Nat.one_pos))

/-- Loading the scale of the activations gives its word, -/
theorem loadSx_run (s : Vec F S1 .f32) (K : Elt F .f32 → sProp 𝕄) :
    iprop(whole c cc0_stg1_0 s ∗ (whole c cc0_stg1_0 s -∗ K (word s)))
      ⊢ run c (smemLoad sxM (Rect.unit (s := S1) ![0] S1.size inb_S1_S1_0) numel1_S1 rfl) K := by
  unfold smemLoad
  iintro ⟨H, Hk⟩
  iapply (wp_smemLoadElt 𝒱₀ (c : Thread nD τ) none Set.univ (m := sxM) (r := Rect.unit (s := S1) ![0] S1.size inb_S1_S1_0)
    (S := Finset.univ) (f := s) (Finset.subset_univ _)) $$ H
  iintro H
  rw [wp_ret]; imodintro
  rw [show (sxM.access (Rect.unit (s := S1) ![0] S1.size inb_S1_S1_0)).read (Elt F) s (Shape.Idx.first (numel1_S1.symm ▸ Nat.one_pos)) = word s
    from congrArg s (funext fun a => Fin.ext (by fin_cases a; rfl))]
  iapply Hk; iexact H
/-- and that of the weights its own. -/
theorem loadSw_run (s : Vec F S1 .f32) (K : Elt F .f32 → sProp 𝕄) :
    iprop(whole c cc0_stg2_0 s ∗ (whole c cc0_stg2_0 s -∗ K (word s)))
      ⊢ run c (smemLoad swM (Rect.unit (s := S1) ![0] S1.size inb_S1_S1_0) numel1_S1 rfl) K := by
  unfold smemLoad
  iintro ⟨H, Hk⟩
  iapply (wp_smemLoadElt 𝒱₀ (c : Thread nD τ) none Set.univ (m := swM) (r := Rect.unit (s := S1) ![0] S1.size inb_S1_S1_0)
    (S := Finset.univ) (f := s) (Finset.subset_univ _)) $$ H
  iintro H
  rw [wp_ret]; imodintro
  rw [show (swM.access (Rect.unit (s := S1) ![0] S1.size inb_S1_S1_0)).read (Elt F) s (Shape.Idx.first (numel1_S1.symm ▸ Nat.one_pos)) = word s
    from congrArg s (funext fun a => Fin.ext (by fin_cases a; rfl))]
  iapply Hk; iexact H

/-- and of the last strip. -/
theorem chunkLast_run (b : Fin 2) (x : IVec S1024x512 8) (v : IVec S512x8192 8) (sx sw : Vec F S1 .f32) (k : Fin 8)
    (A : Fin 8 → FVec F S1024x1024 .f32) (K : PUnit → sProp 𝕄) :
    iprop((holds c b v ∗ scales c sx sw) ∗ outIs c A
        ∗ (iprop((holds c b v ∗ scales c sx sw) ∗ outIs c (Function.update A k (finish k x v (word sx) (word sw) (A k)))) -∗ K ⟨⟩))
      ⊢ run c (chunkLast b x k) K := by
  unfold chunkLast scales
  iintro ⟨⟨Hw, H1, H2⟩, Ho, Hk⟩
  rw [run_bind]; iapply (loadW_run c b v); isplitl [Hw]; · iexact Hw
  iintro Hw
  rw [run_bind]; iapply (loadSx_run c sx); isplitl [H1]; · iexact H1
  iintro H1
  rw [run_bind]; iapply (loadSw_run c sw); isplitl [H2]; · iexact H2
  iintro H2
  rw [run_bind]; iapply (loadOut_run c k A); isplitl [Ho]; · iexact Ho
  iintro Ho
  rw [run_bind]; iapply (loadOut_run c k A); isplitl [Ho]; · iexact Ho
  iintro Ho
  iapply (storeOut_run c k (finish k x v (word sx) (word sw) (A k)) A); isplitl [Ho]; · iexact Ho
  iintro Ho
  iapply Hk
  isplitl [Hw H1 H2]
  · isplitl [Hw]; · iexact Hw
    isplitl [H1]; · iexact H1
    iexact H2
  iexact Ho

omit [FloatOps F] in
/-- Eight updates, one of each chunk, are all of them. -/
theorem updates_eight (A : Fin 8 → FVec F S1024x1024 .f32) (g : Fin 8 → FVec F S1024x1024 .f32) :
    Function.update (Function.update (Function.update (Function.update (Function.update (Function.update (Function.update (Function.update A
      0 (g 0)) 1 (g 1)) 2 (g 2)) 3 (g 3)) 4 (g 4)) 5 (g 5)) 6 (g 6)) 7 (g 7) = g := by
  funext k
  fin_cases k <;> rfl

/-- The eight chunks of a strip: when each keeps `R` and turns its chunk of the result by `g`, the strip turns all. -/
theorem eight_run (f : Fin 8 → Pr PUnit) (R : sProp 𝕄) (g : Fin 8 → FVec F S1024x1024 .f32 → FVec F S1024x1024 .f32)
    (hf : ∀ k A (K : PUnit → sProp 𝕄),
      iprop(R ∗ outIs c A ∗ (iprop(R ∗ outIs c (Function.update A k (g k (A k)))) -∗ K ⟨⟩)) ⊢ run c (f k) K)
    (A : Fin 8 → FVec F S1024x1024 .f32) (K : PUnit → sProp 𝕄) :
    iprop(R ∗ outIs c A ∗ (iprop(R ∗ outIs c fun k => g k (A k)) -∗ K ⟨⟩)) ⊢ run c (eight f) K := by
  have e := updates_eight A fun k => g k (A k)
  unfold eight
  iintro ⟨HR, Ho, Hk⟩
  rw [run_bind]; iapply (hf 0); isplitl [HR]; · iexact HR
  isplitl [Ho]; · iexact Ho
  iintro ⟨HR, Ho⟩
  rw [run_bind]; iapply (hf 1); isplitl [HR]; · iexact HR
  isplitl [Ho]; · iexact Ho
  iintro ⟨HR, Ho⟩
  rw [run_bind]; iapply (hf 2); isplitl [HR]; · iexact HR
  isplitl [Ho]; · iexact Ho
  iintro ⟨HR, Ho⟩
  rw [run_bind]; iapply (hf 3); isplitl [HR]; · iexact HR
  isplitl [Ho]; · iexact Ho
  iintro ⟨HR, Ho⟩
  rw [run_bind]; iapply (hf 4); isplitl [HR]; · iexact HR
  isplitl [Ho]; · iexact Ho
  iintro ⟨HR, Ho⟩
  rw [run_bind]; iapply (hf 5); isplitl [HR]; · iexact HR
  isplitl [Ho]; · iexact Ho
  iintro ⟨HR, Ho⟩
  rw [run_bind]; iapply (hf 6); isplitl [HR]; · iexact HR
  isplitl [Ho]; · iexact Ho
  iintro ⟨HR, Ho⟩
  iapply (hf 7); isplitl [HR]; · iexact HR
  isplitl [Ho]; · iexact Ho
  iintro ⟨HR, Ho⟩
  iapply Hk; isplitl [HR]; · iexact HR
  rw [← e]
  iexact Ho

end Cert.KernelIdeal.Steps
-- ==== Proof.Exchange.lean ====
module

public import proofs.«01_k».proof.Proof.Strips

@[expose] public section

/-!
# The steps between the devices

The announcements, the three sends, the waits for the received blocks and for the sends' completion.
-/

noncomputable section

namespace Cert.KernelIdeal.Steps

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "Pr" => Prog (TpuEff nD τ sig (Elt F) Λ₀ Proc.tc)

variable (X : Dev nD → IVec S4096x1024 8) (K : Dev nD × Fin 9 → ℕ)

/-! ## What every device knows: the cells' invariants under their names, and that each cell is at its round -/

def records : sProp 𝕄 :=
  iprop((bigSep Finset.univ fun ck : Dev nD × Fin 9 => cellInv ER (Rd X) (K ck) (kcell ck))
    ∗ bigSep Finset.univ fun ck : Dev nD × Fin 9 => reached ER (kcell ck) 0)

instance records_persistent : BI.Persistent (records (F := F) X K) := by unfold records; infer_instance

omit [FloatOps F] in
theorem inv_at (ck : Dev nD × Fin 9) : records X K ⊢ (cellInv ER (Rd X) (K ck) (kcell ck) : sProp 𝕄) := by
  unfold records
  exact sep_elim_left.trans (bigSep_elim (Finset.mem_univ ck))
omit [FloatOps F] in
theorem reached_at (ck : Dev nD × Fin 9) : records X K ⊢ (reached ER (kcell ck) 0 : sProp 𝕄) := by
  unfold records
  exact sep_elim_right.trans (bigSep_elim (Finset.mem_univ ck))

theorem kcell_bar (c : Dev nD) : kcell (c, 0) = barCell c := rfl
theorem kcell_send (c : Dev nD) (r : Fin 3) : kcell (c, kSend r) = sendCell c r := by
  show ((c : Thread nD τ), csem (kSend r)) = _; rw [csem_send]
theorem kcell_recv (c j : Dev nD) : kcell (c, kRecv j) = recvCell c j := by
  show ((c : Thread nD τ), csem (kRecv j)) = _; rw [csem_recv]

omit [FloatOps F] in
theorem inv_bar (c : Dev nD) : records X K ⊢ (cellInv ER (Rd X) (K (c, 0)) (barCell c) : sProp 𝕄) := inv_at X K (c, 0)
omit [FloatOps F] in
theorem inv_send (c : Dev nD) (r : Fin 3) : records X K ⊢ (cellInv ER (Rd X) (K (c, kSend r)) (sendCell c r) : sProp 𝕄) := by
  rw [← kcell_send]; exact inv_at X K (c, kSend r)
omit [FloatOps F] in
theorem inv_recv (c j : Dev nD) : records X K ⊢ (cellInv ER (Rd X) (K (c, kRecv j)) (recvCell c j) : sProp 𝕄) := by
  rw [← kcell_recv]; exact inv_at X K (c, kRecv j)
omit [FloatOps F] in
theorem reached_bar (c : Dev nD) : records X K ⊢ (reached ER (barCell c) 0 : sProp 𝕄) := reached_at X K (c, 0)
omit [FloatOps F] in
theorem reached_send (c : Dev nD) (r : Fin 3) : records X K ⊢ (reached ER (sendCell c r) 0 : sProp 𝕄) := by
  rw [← kcell_send]; exact reached_at X K (c, kSend r)
omit [FloatOps F] in
theorem reached_recv (c j : Dev nD) : records X K ⊢ (reached ER (recvCell c j) 0 : sProp 𝕄) := by
  rw [← kcell_recv]; exact reached_at X K (c, kRecv j)

variable (c : Dev nD)

/-- a cell at the start of its round -/
abbrev fresh (g : GSem nD τ sig) : sProp 𝕄 := atPos ER g 0 ∅ 0
/-- a cell past its round -/
abbrev past (g : GSem nD τ sig) : sProp 𝕄 := atPos ER g (0 + 1) ∅ 0
/-- the right of device `p` to pay into a cell -/
abbrev tok (g : GSem nD τ sig) (p : Dev nD) : sProp 𝕄 := dutyTok ER g 0 p
/-- slot `q` of device `c`, at any contents -/
def slotAny (q : Dev nD) : sProp 𝕄 := iprop(∃ f, ((c : Thread nD τ).loc cc0_scratch0) ↦[cSet q]{fullShare} f)

omit [FloatOps F] in
theorem slotIs_any (q : Dev nD) (B : IVec S1024x1024 8) : slotIs c q B ⊢ (slotAny c q : sProp 𝕄) := by
  unfold slotIs slotAny
  iintro ⟨%f, -, H⟩
  iexists f; iexact H

/-! ## The announcements -/

omit [FloatOps F] in
theorem barPay_intro (p : Dev nD) : slotAny p c ⊢ (barPay c p : sProp 𝕄) := by
  unfold slotAny barPay
  rw [set_cSlot]

/-- One announcement: the right to it and the slot it hands over. -/
theorem signal_run (r : Fin 3) (O O' : CellTallies nD τ sig Unit) (hO : O = O' + tallyAt (barCell (peer c r)) () 1) (Q : PUnit → sProp 𝕄) :
    iprop(records X K ∗ owing c O ∗ tok (barCell (peer c r)) c ∗ slotAny c (peer c r) ∗ (owing c O' -∗ Q ⟨⟩))
      ⊢ run c (semSignalWord (peer c r) barS 1#32) Q := by
  unfold owing
  simp only [semSignalWord, Prog.lift, Prog.bind_op, Prog.bind_ret, Prog.pure_eq_ret]
  iintro ⟨#HR, ⟨%Ws, Ho⟩, Ht, Hs, Hk⟩
  iapply (Rounds.wp_signal 𝒱₀ ER (Rd X) (c : Thread nD τ) none (dst := (peer c r : Thread nD τ)) (κ := K (peer c r, 0))
      (d := c) (by rw [duties_bar]; exact Finset.mem_erase.mpr ⟨ne_peer c r, Finset.mem_univ _⟩)
      (show (1 : ℕ) = _ by decide) () O' hO) $$ [Ho Ht Hs]
  · isplitr; · iapply (inv_bar X K (peer c r)); iexact HR
    isplitl [Ho]; · iexact Ho
    isplitl [Ht]; · iexact Ht
    isplitl [Hs]
    · rw [payload_bar]; iapply (barPay_intro (peer c r) c); iexact Hs
    iapply (reached_bar X K (peer c r)); iexact HR
  iintro Ho
  rw [wp_ret]; imodintro
  iapply Hk; iexists Ws; iexact Ho

/-- All three, and the wait for those of the others, which hand over their slots. -/
theorem meet_run (Q : PUnit → sProp 𝕄) :
    iprop(records X K ∗ levAts L lv ∗ owing c (O₀ c)
        ∗ (tok (barCell (peer c 0)) c ∗ tok (barCell (peer c 1)) c ∗ tok (barCell (peer c 2)) c)
        ∗ (slotAny c (peer c 0) ∗ slotAny c (peer c 1) ∗ slotAny c (peer c 2))
        ∗ cred (tallyAt (barCell c) () 3) ∗ fresh (barCell c)
        ∗ (iprop(owing c (OS c) ∗ past (barCell c) ∗ barPay c (peer c 0) ∗ barPay c (peer c 1) ∗ barPay c (peer c 2)) -∗ Q ⟨⟩))
      ⊢ run c (meet c) Q := by
  unfold meet
  rw [dev1_eq, dev2_eq, dev3_eq]
  iintro ⟨#HR, #Hl, Ho, ⟨Ht0, Ht1, Ht2⟩, ⟨Hs0, Hs1, Hs2⟩, Hc, Ha, Hk⟩
  rw [run_bind]; iapply (signal_run X K c 0 (O₀ c) _ rfl)
  isplitr; · iexact HR
  isplitl [Ho]; · iexact Ho
  isplitl [Ht0]; · iexact Ht0
  isplitl [Hs0]; · iexact Hs0
  iintro Ho
  rw [run_bind]; iapply (signal_run X K c 1 _ _ rfl)
  isplitr; · iexact HR
  isplitl [Ho]; · iexact Ho
  isplitl [Ht1]; · iexact Ht1
  isplitl [Hs1]; · iexact Hs1
  iintro Ho
  rw [run_bind]; iapply (signal_run X K c 2 _ (OS c) rfl)
  isplitr; · iexact HR
  isplitl [Ho]; · iexact Ho
  isplitl [Ht2]; · iexact Ht2
  isplitl [Hs2]; · iexact Hs2
  unfold owing
  simp only [semWaitWord, Prog.lift, Prog.bind_op, Prog.bind_ret, Prog.pure_eq_ret]
  iintro ⟨%Ws, Ho⟩
  iapply (Rounds.wp_wait_rest_token 𝒱₀ ER (Rd X) (c : Thread nD τ) none (κ := K (c, 0))
      (wpE_semWait_eq 𝒱₀ (c : Thread nD τ) none Set.univ) (Set.mem_univ _) () (O := OS c) (W := Ws) (R := 0) (m := 0) (T := ∅)
      (by rw [expect_bar]; decide)) $$ [Hc Ho Ha]
  · isplitr; · iapply (inv_bar X K c); iexact HR
    isplitl [Hc]; · iexact Hc
    isplitl [Ho]; · iexact Ho
    isplitr; · iapply (mayWait_bar c); iexact Hl
    iexact Ha
  iintro ⟨Ho, Ha, -, Hp⟩
  rw [wp_ret]; imodintro
  iapply Hk
  isplitl [Ho]; · iexists _; iexact Ho
  isplitl [Ha]; · iexact Ha
  iapply (Entails.of_eq (rest_bar X c)); iexact Hp

/-! ## The sends -/

/-- One send: the block, the peer's slot and the rights to both cells for the credit of its completion. -/
theorem send_run (r : Fin 3) (t : Dev nD) (ht : t = peer c r) (O O' : CellTallies nD τ sig Unit)
    (hO : O = O' + tallyAt (recvCell (peer c r) c) () N) (Q : PUnit → sProp 𝕄) :
    iprop(records X K ∗ owing c O ∗ sendPay X c r ∗ barPay c (peer c r) ∗ tok (sendCell c r) c ∗ tok (recvCell (peer c r) c) c
        ∗ (iprop(cred (tallyAt (sendCell c r) () N) ∗ owing c O') -∗ Q ⟨⟩))
      ⊢ run c (send c t r) Q := by
  subst ht
  unfold owing sendPay barPay send Prog.lift
  iintro ⟨#HR, ⟨%Ws, Ho⟩, Hx, ⟨%fd, Hd⟩, Ht, Ht', Hk⟩
  iapply (Rounds.wp_send_pointsTo 𝒱₀ ER (Rd X) (c : Thread nD τ) none (κ₁ := K (c, kSend r)) (κ₂ := K (peer c r, kRecv c))
    (r₁ := 0) (r₂ := 0) (d₁ := c) (d₂ := c) (fd := fd)
    (by rw [duties_send]; exact Finset.mem_singleton_self _) (by rw [duties_recv X _ _ (ne_peer c r)]; exact Finset.mem_singleton_self _)
    () () N rfl rfl rfl O' hO (W := Ws)
    (by rw [payload_send]; exact BI.Entails.refl _)
    (by
      rw [payload_recv]
      unfold recvPay
      iintro H
      iexists _
      isplitr
      rotate_left
      · iexact H
      · ipureintro
        exact (View.read_write_univ _ _).trans (read_xBlk c r (X c)))) $$ [Hx Hd Ho Ht Ht']
  · isplitr; · iapply (inv_send X K c r); iexact HR
    isplitr; · iapply (inv_recv X K (peer c r) c); iexact HR
    isplitl [Hx]; · iexact Hx
    isplitl [Hd]; · iexact Hd
    isplitl [Ho]; · iexact Ho
    isplitl [Ht]; · iexact Ht
    isplitr; · iapply (reached_send X K c r); iexact HR
    isplitl [Ht']; · iexact Ht'
    iapply (reached_recv X K (peer c r) c); iexact HR
  iintro ⟨Hc, Ho⟩
  rw [wp_ret]; imodintro
  iapply Hk
  isplitl [Hc]; · iexact Hc
  iexists Ws; iexact Ho

/-- what a send to the device `r + 1` further on takes -/
def toSend (r : Fin 3) : sProp 𝕄 :=
  iprop(sendPay X c r ∗ barPay c (peer c r) ∗ tok (sendCell c r) c ∗ tok (recvCell (peer c r) c) c)

/-- All three sends; nothing is owed afterwards. -/
theorem sends_run (Q : PUnit → sProp 𝕄) :
    iprop(records X K ∗ owing c (OS c) ∗ toSend X c 0 ∗ toSend X c 1 ∗ toSend X c 2
        ∗ (iprop(owing c 0 ∗ cred (tallyAt (sendCell c 0) () N) ∗ cred (tallyAt (sendCell c 1) () N) ∗ cred (tallyAt (sendCell c 2) () N)) -∗ Q ⟨⟩))
      ⊢ run c (sends c) Q := by
  unfold sends toSend
  iintro ⟨#HR, Ho, ⟨Ha0, Hb0, Hc0, Hd0⟩, ⟨Ha1, Hb1, Hc1, Hd1⟩, ⟨Ha2, Hb2, Hc2, Hd2⟩, Hk⟩
  rw [run_bind]; iapply (send_run X K c 0 _ (dev4_eq c) (OS c) _ rfl)
  isplitr; · iexact HR
  isplitl [Ho]; · iexact Ho
  isplitl [Ha0]; · iexact Ha0
  isplitl [Hb0]; · iexact Hb0
  isplitl [Hc0]; · iexact Hc0
  isplitl [Hd0]; · iexact Hd0
  iintro ⟨H0, Ho⟩
  rw [run_bind]; iapply (send_run X K c 2 _ (dev5_eq c) _ _ rfl)
  isplitr; · iexact HR
  isplitl [Ho]; · iexact Ho
  isplitl [Ha2]; · iexact Ha2
  isplitl [Hb2]; · iexact Hb2
  isplitl [Hc2]; · iexact Hc2
  isplitl [Hd2]; · iexact Hd2
  iintro ⟨H2, Ho⟩
  iapply (send_run X K c 1 _ (dev6_eq c) _ 0 (zero_add _).symm)
  isplitr; · iexact HR
  isplitl [Ho]; · iexact Ho
  isplitl [Ha1]; · iexact Ha1
  isplitl [Hb1]; · iexact Hb1
  isplitl [Hc1]; · iexact Hc1
  isplitl [Hd1]; · iexact Hd1
  iintro ⟨H1, Ho⟩
  iapply Hk
  isplitl [Ho]; · iexact Ho
  isplitl [H0]; · iexact H0
  isplitl [H1]; · iexact H1
  iexact H2

/-- Waiting for a send's completion gives the block back. -/
theorem waitSend_run (r : Fin 3) (Q : PUnit → sProp 𝕄) :
    iprop(records X K ∗ owing c 0 ∗ cred (tallyAt (sendCell c r) () N) ∗ fresh (sendCell c r)
        ∗ (iprop(owing c 0 ∗ past (sendCell c r) ∗ sendPay X c r) -∗ Q ⟨⟩))
      ⊢ run c (waitSend c r) Q := by
  unfold owing waitSend Prog.lift
  iintro ⟨#HR, ⟨%Ws, Ho⟩, Hc, Ha, Hk⟩
  iapply (Rounds.wp_wait_rest_token 𝒱₀ ER (Rd X) (c : Thread nD τ) none (κ := K (c, kSend r))
      (wpE_waitDma2_eq 𝒱₀ (c : Thread nD τ) none Set.univ) (Set.mem_univ _) () (O := 0) (W := Ws) (R := 0) (m := 0) (T := ∅)
      (by rw [Nat.zero_add, expect_send])) $$ [Hc Ho Ha]
  · isplitr; · iapply (inv_send X K c r); iexact HR
    isplitl [Hc]; · iexact Hc
    isplitl [Ho]; · iexact Ho
    isplitr; · rw [MayWait_zero]; iempintro
    iexact Ha
  iintro ⟨Ho, Ha, -, Hp⟩
  rw [wp_ret]; imodintro
  iapply Hk
  isplitl [Ho]; · iexists _; iexact Ho
  isplitl [Ha]; · iexact Ha
  iapply (Entails.of_eq (rest_send X c r)); iexact Hp

/-- Waiting for an arrival gives the slot filled. -/
theorem recv_run (r : Fin 3) (Q : PUnit → sProp 𝕄) :
    iprop(records X K ∗ owing c 0 ∗ cred (tallyAt (recvCell c (peer c r)) () N) ∗ fresh (recvCell c (peer c r))
        ∗ (iprop(owing c 0 ∗ past (recvCell c (peer c r)) ∗ slotIs c (peer c r) (rows c (X (peer c r)))) -∗ Q ⟨⟩))
      ⊢ run c (recv c r) Q := by
  unfold owing recv Prog.lift
  rw [inSem_eq]
  iintro ⟨#HR, ⟨%Ws, Ho⟩, Hc, Ha, Hk⟩
  iapply (Rounds.wp_wait_rest_token 𝒱₀ ER (Rd X) (c : Thread nD τ) none (κ := K (c, kRecv (peer c r)))
      (wpE_waitDma2_eq 𝒱₀ (c : Thread nD τ) none Set.univ) (Set.mem_univ _) () (O := 0) (W := Ws) (R := 0) (m := 0) (T := ∅)
      (by rw [Nat.zero_add, expect_recv X c _ (peer_ne c r)])) $$ [Hc Ho Ha]
  · isplitr; · iapply (inv_recv X K c (peer c r)); iexact HR
    isplitl [Hc]; · iexact Hc
    isplitl [Ho]; · iexact Ho
    isplitr; · rw [MayWait_zero]; iempintro
    iexact Ha
  iintro ⟨Ho, Ha, -, Hp⟩
  rw [wp_ret]; imodintro
  iapply Hk
  isplitl [Ho]; · iexists _; iexact Ho
  isplitl [Ha]; · iexact Ha
  ihave Hq := (Entails.of_eq (rest_recv X c (peer c r) (peer_ne c r))) $$ Hp
  unfold recvPay slotIs
  rw [set_cSlot]
  iexact Hq

end Cert.KernelIdeal.Steps
-- ==== Proof.Compute.lean ====
module

public import proofs.«01_k».proof.Proof.Exchange

@[expose] public section

/-!
# The eight strips

Every block of activations meets two strips of weights, one in each weight buffer; while one is used the next
is copied into the other.
-/

noncomputable section

namespace Cert.KernelIdeal.Steps

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "Pr" => Prog (TpuEff nD τ sig (Elt F) Λ₀ Proc.tc)

/-! ## The values -/

/-- the result after the own block `B` of device `q` -/
def firstTwo (q : Dev nD) (B : IVec S1024x1024 8) (W : IVec S4096x8192 8) (k : Fin 8) : FVec F S1024x1024 .f32 :=
  accum k (half 1 B) (strip q 1 W) (part k (half 0 B) (strip q 0 W))
/-- the result `A` after one more block `B`, of device `q` -/
def midTwo (q : Dev nD) (B : IVec S1024x1024 8) (W : IVec S4096x8192 8) (A : Fin 8 → FVec F S1024x1024 .f32) (k : Fin 8) :
    FVec F S1024x1024 .f32 :=
  accum k (half 1 B) (strip q 1 W) (accum k (half 0 B) (strip q 0 W) (A k))
/-- and after the last -/
def lastTwo (q : Dev nD) (B : IVec S1024x1024 8) (W : IVec S4096x8192 8) (sx sw : Elt F .f32) (A : Fin 8 → FVec F S1024x1024 .f32)
    (k : Fin 8) : FVec F S1024x1024 .f32 :=
  finish k (half 1 B) (strip q 1 W) sx sw (accum k (half 0 B) (strip q 0 W) (A k))
/-- chunk `k` of the result of device `c`, when device `q` holds the activations `X q` -/
def chunks (X : Dev nD → IVec S4096x1024 8) (W : IVec S4096x8192 8) (sx sw : Elt F .f32) (c : Dev nD) : Fin 8 → FVec F S1024x1024 .f32 :=
  lastTwo (peer c 1) (rows c (X (peer c 1))) W sx sw
    (midTwo (peer c 0) (rows c (X (peer c 0))) W
      (midTwo (peer c 2) (rows c (X (peer c 2))) W (firstTwo c (rows c (X c)) W)))

/-! ## The runs -/

variable (X : Dev nD → IVec S4096x1024 8) (K : Dev nD × Fin 9 → ℕ) (W : IVec S4096x8192 8) (c : Dev nD)

/-- between two blocks: the next block's first strip is on its way into buffer `0`, buffer `1` is free -/
def ready (q : Dev nD) : sProp 𝕄 := iprop(flying c W 0 (strip q 0 W) ∗ owing c 0 ∗ free c 1 ∗ idle c 1)
/-- the own row block of device `c`'s activations -/
def ownBlock : sProp 𝕄 :=
  (((c : Thread nD τ).loc cc0_stg0_0) ↦[xSet c]{fullShare} (X c : Buf (Elt F) ((c : Thread nD τ).loc cc0_stg0_0)))

/-- One strip that is not the last: the buffer `b` is filled, the copy of the next strip into the other buffer
    started, the half block `x` loaded and the chunks updated by `g`. -/
theorem strip_run (r r' : Fin 4) (h h' : Fin 2) (b b' : Fin 2) (q : Dev nD) (hq : ahead c r' = q)
    (ld : Pr (IVec S1024x512 8)) (x : IVec S1024x512 8) (P : sProp 𝕄)
    (hld : ∀ Q : IVec S1024x512 8 → sProp 𝕄, iprop(P ∗ (P -∗ Q x)) ⊢ run c ld Q)
    (f : IVec S1024x512 8 → Fin 8 → Pr PUnit) (v : IVec S512x8192 8)
    (g : Fin 8 → FVec F S1024x1024 .f32 → FVec F S1024x1024 .f32)
    (hf : ∀ k A (Q : PUnit → sProp 𝕄),
      iprop(holds c b v ∗ outIs c A ∗ (iprop(holds c b v ∗ outIs c (Function.update A k (g k (A k)))) -∗ Q ⟨⟩)) ⊢ run c (f x k) Q)
    (A : Fin 8 → FVec F S1024x1024 .f32) {β : Type} (next : Pr β) (Q : β → sProp 𝕄) :
    iprop(flying c W b v ∗ owing c 0 ∗ free c b' ∗ idle c b' ∗ P ∗ outIs c A
        ∗ (iprop(flying c W b' (strip q h' W) ∗ owing c 0 ∗ free c b ∗ idle c b ∗ P ∗ outIs c fun k => g k (A k)) -∗ run c next Q))
      ⊢ run c (do waitW c r h b; startW c r' h' b'; let x ← ld; eight (f x); next) Q := by
  subst hq
  iintro ⟨Hf, Ho, Hb, Hi, HP, HA, Hk⟩
  rw [run_bind]; iapply (waitW_run c r h b W v); isplitl [Hf]; · iexact Hf
  isplitl [Ho]; · iexact Ho
  iintro ⟨Hv, HW, Hi', Ho⟩
  rw [run_bind]; iapply (startW_run c r' h' b' W); isplitl [HW]; · iexact HW
  isplitl [Hb]; · iexact Hb
  isplitl [Hi]; · iexact Hi
  iintro Hf
  rw [run_bind]; iapply (hld _); isplitl [HP]; · iexact HP
  iintro HP
  rw [run_bind]; iapply (eight_run c (f x) (holds c b v) g hf A); isplitl [Hv]; · iexact Hv
  isplitl [HA]; · iexact HA
  iintro ⟨Hv, HA⟩
  iapply Hk
  isplitl [Hf]; · iexact Hf
  isplitl [Ho]; · iexact Ho
  isplitl [Hv]; · iapply (holds_free c b v); iexact Hv
  isplitl [Hi']; · iexact Hi'
  isplitl [HP]; · iexact HP
  iexact HA

/-- Nothing left to do. -/
theorem run_done {α : Type} (a : α) (Q : α → sProp 𝕄) : Q a ⊢ run c (pure a : Pr α) Q := by
  iintro H
  rw [Prog.pure_eq_ret, run, wp_ret]; imodintro; iexact H

/-- The strips of the own block. -/
theorem ownStrips_run (A : Fin 8 → FVec F S1024x1024 .f32) (Q : PUnit → sProp 𝕄) :
    iprop(ready W c c ∗ ownBlock X c ∗ outIs c A
        ∗ (iprop(ready W c (peer c 2) ∗ ownBlock X c ∗ outIs c (firstTwo c (rows c (X c)) W)) -∗ Q ⟨⟩))
      ⊢ run c (ownStrips c) Q := by
  rw [show ownStrips (F := F) c = (do
      waitW c 0 0 0; startW c 0 1 1; let x ← own0 c; eight (chunkFirst 0 x)
      waitW c 0 1 1; startW c 3 0 0; let x ← own1 c; eight (chunkMid 1 x); pure ⟨⟩) from rfl]
  unfold ready ownBlock
  iintro ⟨⟨Hf, Ho, Hb, Hi⟩, HP, HA, Hk⟩
  iapply (strip_run W c 0 0 0 1 0 1 c (ahead_zero c) (own0 c) (half 0 (rows c (X c))) _ (fun Q => own0_run c (X c) Q)
    (chunkFirst 0) (strip c 0 W) (fun k _ => part k (half 0 (rows c (X c))) (strip c 0 W))
    (fun k A Q => chunkFirst_run c 0 _ _ k A Q) A _ Q)
  isplitl [Hf]; · iexact Hf
  isplitl [Ho]; · iexact Ho
  isplitl [Hb]; · iexact Hb
  isplitl [Hi]; · iexact Hi
  isplitl [HP]; · iexact HP
  isplitl [HA]; · iexact HA
  iintro ⟨Hf, Ho, Hb, Hi, HP, HA⟩
  iapply (strip_run W c 0 3 1 0 1 0 (peer c 2) (ahead_succ c 2) (own1 c) (half 1 (rows c (X c))) _ (fun Q => own1_run c (X c) Q)
    (chunkMid 1) (strip c 1 W) (fun k a => accum k (half 1 (rows c (X c))) (strip c 1 W) a)
    (fun k A Q => chunkMid_run c 1 _ _ k A Q) _ _ Q)
  isplitl [Hf]; · iexact Hf
  isplitl [Ho]; · iexact Ho
  isplitl [Hb]; · iexact Hb
  isplitl [Hi]; · iexact Hi
  isplitl [HP]; · iexact HP
  isplitl [HA]; · iexact HA
  iintro ⟨Hf, Ho, Hb, Hi, HP, HA⟩
  iapply (run_done c PUnit.unit Q)
  iapply Hk
  isplitl [Hf Ho Hb Hi]
  · isplitl [Hf]; · iexact Hf
    isplitl [Ho]; · iexact Ho
    isplitl [Hb]; · iexact Hb
    iexact Hi
  isplitl [HP]; · iexact HP
  iexact HA

/-- what the wait for the block of the device `r + 1` further on takes -/
def toGet (r : Fin 3) : sProp 𝕄 :=
  iprop(cred (tallyAt (recvCell c (peer c r)) () N) ∗ fresh (recvCell c (peer c r)))
/-- and what is left when that block was used -/
def gotIt (r : Fin 3) : sProp 𝕄 :=
  iprop(past (recvCell c (peer c r)) ∗ slotAny c (peer c r))

/-- The strips of a received block that is not the last. -/
theorem midStrips_run (r : Fin 3) (n : Fin 4) (q : Dev nD) (hq : ahead c n = q) (A : Fin 8 → FVec F S1024x1024 .f32) (Q : PUnit → sProp 𝕄) :
    iprop(records X K ∗ ready W c (peer c r) ∗ toGet c r ∗ outIs c A
        ∗ (iprop(ready W c q ∗ gotIt c r ∗ outIs c (midTwo (peer c r) (rows c (X (peer c r))) W A)) -∗ Q ⟨⟩))
      ⊢ run c (midStrips c r n) Q := by
  rw [show midStrips (F := F) c r n = (do
      recv c r
      waitW c r.succ 0 0; startW c r.succ 1 1; let x ← got0 c r; eight (chunkMid 0 x)
      waitW c r.succ 1 1; startW c n 0 0; let x ← got1 c r; eight (chunkMid 1 x); pure ⟨⟩) from rfl]
  unfold ready toGet gotIt
  iintro ⟨#HR, ⟨Hf, Ho, Hb, Hi⟩, ⟨Hc, Ha⟩, HA, Hk⟩
  rw [run_bind]; iapply (recv_run X K c r)
  isplitr; · iexact HR
  isplitl [Ho]; · iexact Ho
  isplitl [Hc]; · iexact Hc
  isplitl [Ha]; · iexact Ha
  iintro ⟨Ho, Ha, HP⟩
  iapply (strip_run W c r.succ r.succ 0 1 0 1 (peer c r) (ahead_succ c r) (got0 c r) (half 0 (rows c (X (peer c r)))) _
    (fun Q => got0_run c r _ Q) (chunkMid 0) (strip (peer c r) 0 W)
    (fun k a => accum k (half 0 (rows c (X (peer c r)))) (strip (peer c r) 0 W) a)
    (fun k A Q => chunkMid_run c 0 _ _ k A Q) A _ Q)
  isplitl [Hf]; · iexact Hf
  isplitl [Ho]; · iexact Ho
  isplitl [Hb]; · iexact Hb
  isplitl [Hi]; · iexact Hi
  isplitl [HP]; · iexact HP
  isplitl [HA]; · iexact HA
  iintro ⟨Hf, Ho, Hb, Hi, HP, HA⟩
  iapply (strip_run W c r.succ n 1 0 1 0 q hq (got1 c r) (half 1 (rows c (X (peer c r)))) _
    (fun Q => got1_run c r _ Q) (chunkMid 1) (strip (peer c r) 1 W)
    (fun k a => accum k (half 1 (rows c (X (peer c r)))) (strip (peer c r) 1 W) a)
    (fun k A Q => chunkMid_run c 1 _ _ k A Q) _ _ Q)
  isplitl [Hf]; · iexact Hf
  isplitl [Ho]; · iexact Ho
  isplitl [Hb]; · iexact Hb
  isplitl [Hi]; · iexact Hi
  isplitl [HP]; · iexact HP
  isplitl [HA]; · iexact HA
  iintro ⟨Hf, Ho, Hb, Hi, HP, HA⟩
  iapply (run_done c PUnit.unit Q)
  iapply Hk
  isplitl [Hf Ho Hb Hi]
  · isplitl [Hf]; · iexact Hf
    isplitl [Ho]; · iexact Ho
    isplitl [Hb]; · iexact Hb
    iexact Hi
  isplitl [Ha HP]
  · isplitl [Ha]; · iexact Ha
    iapply (slotIs_any c (peer c r) _); iexact HP
  iexact HA

/-- The strips of the last block; the weights are all back afterwards. -/
theorem lastStrips_run (sx sw : Vec F S1 .f32) (A : Fin 8 → FVec F S1024x1024 .f32) (Q : PUnit → sProp 𝕄) :
    iprop(records X K ∗ ready W c (peer c 1) ∗ toGet c 1 ∗ scales c sx sw ∗ outIs c A
        ∗ (iprop(owing c 0 ∗ whole c main_arg1 W ∗ free c 0 ∗ free c 1 ∗ idle c 0 ∗ idle c 1 ∗ gotIt c 1 ∗ scales c sx sw
            ∗ outIs c (lastTwo (peer c 1) (rows c (X (peer c 1))) W (word sx) (word sw) A)) -∗ Q ⟨⟩))
      ⊢ run c (lastStrips c) Q := by
  unfold lastStrips ready toGet gotIt
  iintro ⟨#HR, ⟨Hf, Ho, Hb, Hi⟩, ⟨Hc, Ha⟩, Hs, HA, Hk⟩
  rw [run_bind]; iapply (recv_run X K c 1)
  isplitr; · iexact HR
  isplitl [Ho]; · iexact Ho
  isplitl [Hc]; · iexact Hc
  isplitl [Ha]; · iexact Ha
  iintro ⟨Ho, Ha, HP⟩
  iapply (strip_run W c 2 2 0 1 0 1 (peer c 1) (ahead_succ c 1) (got0 c 1) (half 0 (rows c (X (peer c 1)))) _
    (fun Q => got0_run c 1 _ Q) (chunkMid 0) (strip (peer c 1) 0 W)
    (fun k a => accum k (half 0 (rows c (X (peer c 1)))) (strip (peer c 1) 0 W) a)
    (fun k A Q => chunkMid_run c 0 _ _ k A Q) A _ Q)
  isplitl [Hf]; · iexact Hf
  isplitl [Ho]; · iexact Ho
  isplitl [Hb]; · iexact Hb
  isplitl [Hi]; · iexact Hi
  isplitl [HP]; · iexact HP
  isplitl [HA]; · iexact HA
  iintro ⟨Hf, Ho, Hb, Hi, HP, HA⟩
  rw [run_bind]; iapply (waitW_run c 2 1 1 W (strip (peer c 1) 1 W)); isplitl [Hf]; · iexact Hf
  isplitl [Ho]; · iexact Ho
  iintro ⟨Hv, HW, Hi', Ho⟩
  rw [run_bind]; iapply (got1_run c 1 _); isplitl [HP]; · iexact HP
  iintro HP
  iapply (eight_run c (chunkLast 1 (half 1 (rows c (X (peer c 1))))) iprop(holds c 1 (strip (peer c 1) 1 W) ∗ scales c sx sw)
    (fun k a => finish k (half 1 (rows c (X (peer c 1)))) (strip (peer c 1) 1 W) (word sx) (word sw) a)
    (fun k A Q => chunkLast_run c 1 _ _ sx sw k A Q) _)
  isplitl [Hv Hs]
  · isplitl [Hv]; · iexact Hv
    iexact Hs
  isplitl [HA]; · iexact HA
  iintro ⟨⟨Hv, Hs⟩, HA⟩
  iapply Hk
  isplitl [Ho]; · iexact Ho
  isplitl [HW]; · iexact HW
  isplitl [Hb]; · iexact Hb
  isplitl [Hv]; · iapply (holds_free c 1 _); iexact Hv
  isplitl [Hi]; · iexact Hi
  isplitl [Hi']; · iexact Hi'
  isplitl [Ha HP]
  · isplitl [Ha]; · iexact Ha
    iapply (slotIs_any c (peer c 1) _); iexact HP
  isplitl [Hs]; · iexact Hs
  iexact HA

end Cert.KernelIdeal.Steps
-- ==== Proof.Body.lean ====
module

public import proofs.«01_k».proof.Proof.Compute
public import Idealize.ShloMosaic.Lib.Ring

@[expose] public section

/-!
# The whole body

From what a device holds when the body starts to what it holds when it ends: its buffers are whole again, its
result is `chunks`, it owes nothing and its semaphores are at zero.
-/

noncomputable section

namespace Cert.KernelIdeal.Steps

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "Pr" => Prog (TpuEff nD τ sig (Elt F) Λ₀ Proc.tc)

variable (X : Dev nD → IVec S4096x1024 8) (K : Dev nD × Fin 9 → ℕ) (W : IVec S4096x8192 8) (c : Dev nD)

/-! ## Buffers as blocks -/

omit [FloatOps F] in
/-- Over the four devices, seen from `c`. -/
theorem over_devs (Φ : Dev nD → sProp 𝕄) :
    bigSep Finset.univ Φ = iprop(Φ c ∗ Φ (peer c 0) ∗ Φ (peer c 1) ∗ Φ (peer c 2)) := by
  rw [bigSep_univ_eq_bigSepL [c, peer c 0, peer c 1, peer c 2] (by revert c; decide) (by revert c; decide)]
  rfl
omit [FloatOps F] in
theorem over_three (Φ : Fin 3 → sProp 𝕄) : bigSep Finset.univ Φ = iprop(Φ 0 ∗ Φ 1 ∗ Φ 2) := by
  rw [bigSep_univ_eq_bigSepL [0, 1, 2] (by decide) (by decide)]
  rfl
omit [FloatOps F] in
/-- Over the nine cells of `c`, seen from `c`. -/
theorem over_cells (Φ : GSem nD τ sig → sProp 𝕄) :
    bigSep Finset.univ (fun k : Fin 9 => Φ (kcell (c, k))) =
      iprop(Φ (barCell c) ∗ Φ (kcell (c, 1)) ∗ Φ (kcell (c, kRecv c))
        ∗ Φ (sendCell c 0) ∗ Φ (sendCell c 1) ∗ Φ (sendCell c 2)
        ∗ Φ (recvCell c (peer c 0)) ∗ Φ (recvCell c (peer c 1)) ∗ Φ (recvCell c (peer c 2))) := by
  rw [bigSep_univ_eq_bigSepL [0, 1, kRecv c, kSend 0, kSend 1, kSend 2, kRecv (peer c 0), kRecv (peer c 1), kRecv (peer c 2)]
    (by revert c; decide) (by revert c; decide)]
  simp only [bigSepL_cons_cons, bigSepL_singleton, ← kcell_send, ← kcell_recv, ← kcell_bar]
  rfl

omit [FloatOps F] in
/-- The activations are the own block and the three blocks sent. -/
theorem x_blocks : whole c cc0_stg0_0 (X c) = (iprop(ownBlock X c ∗ sendPay X c 0 ∗ sendPay X c 1 ∗ sendPay X c 2) : sProp 𝕄) := by
  unfold ownBlock sendPay
  rw [set_xBlk, set_xBlk, set_xBlk]
  refine (Ring.pointsTo_blocks xSet xSet_disjoint xSet_cover _).trans ?_
  exact over_devs c _

omit [FloatOps F] in
/-- The received blocks' buffer is four slots. -/
theorem slots_split : iprop(∃ f, whole c cc0_scratch0 f) ⊢
    (iprop(slotAny c c ∗ slotAny c (peer c 0) ∗ slotAny c (peer c 1) ∗ slotAny c (peer c 2)) : sProp 𝕄) := by
  rw [← over_devs c (fun q => slotAny c q)]
  iintro ⟨%f, H⟩
  iapply (((Entails.of_eq (Ring.pointsTo_blocks (ℓ := (c : Thread nD τ).loc cc0_scratch0) cSet cSet_disjoint cSet_cover f)).trans
    (bigSep_mono fun q _ => show _ ⊢ (slotAny c q : sProp 𝕄) from by unfold slotAny; iintro H; iexists f; iexact H)))
  iexact H
omit [FloatOps F] in
theorem slots_join : (iprop(slotAny c c ∗ slotAny c (peer c 0) ∗ slotAny c (peer c 1) ∗ slotAny c (peer c 2)) : sProp 𝕄) ⊢
    iprop(∃ f, whole c cc0_scratch0 f) := by
  have f₀ : Buf (Elt F) ((c : Thread nD τ).loc cc0_scratch0) := fun _ => (0#8 : BitVec 8)
  rw [← over_devs c (fun q => slotAny c q)]
  unfold slotAny
  exact Ring.pointsTo_blocks_join_exists (ℓ := (c : Thread nD τ).loc cc0_scratch0) cSet cSet_disjoint cSet_cover f₀

omit [FloatOps F] in
theorem over_two (Φ : Fin 2 → sProp 𝕄) : bigSep Finset.univ Φ = iprop(Φ 0 ∗ Φ 1) := by
  rw [bigSep_univ_eq_bigSepL [0, 1] (by decide) (by decide)]
  rfl
omit [FloatOps F] in
/-- The weights' buffer is two. -/
theorem bufs_split : iprop(∃ f, whole c cc0_scratch1 f) ⊢ (iprop(free c 0 ∗ free c 1) : sProp 𝕄) := by
  rw [← over_two (fun b => free c b)]
  iintro ⟨%f, H⟩
  iapply (((Entails.of_eq (Ring.pointsTo_blocks (ℓ := (c : Thread nD τ).loc cc0_scratch1) bSet bSet_disjoint bSet_cover f)).trans
    (bigSep_mono fun b _ => show _ ⊢ (free c b : sProp 𝕄) from by unfold free; iintro H; iexists f; iexact H)))
  iexact H
omit [FloatOps F] in
theorem bufs_join : (iprop(free c 0 ∗ free c 1) : sProp 𝕄) ⊢ iprop(∃ f, whole c cc0_scratch1 f) := by
  have f₀ : Buf (Elt F) ((c : Thread nD τ).loc cc0_scratch1) := fun _ => (0#8 : BitVec 8)
  rw [← over_two (fun b => free c b)]
  unfold free
  exact Ring.pointsTo_blocks_join_exists (ℓ := (c : Thread nD τ).loc cc0_scratch1) bSet bSet_disjoint bSet_cover f₀

/-! ## Start and end -/

/-- the rights of device `c` to pay: into each peer's announcements and arrivals, and into its own sends -/
def payToks : sProp 𝕄 :=
  bigSep Finset.univ fun r : Fin 3 =>
    iprop(tok (barCell (peer c r)) c ∗ tok (recvCell (peer c r) c) c ∗ tok (sendCell c r) c)
/-- what device `c` was promised at launch -/
def promised : sProp 𝕄 :=
  iprop(cred (tallyAt (barCell c) () 3) ∗ bigSep Finset.univ fun r : Fin 3 => cred (tallyAt (recvCell c (peer c r)) () N))

/-- what the body of device `c` starts with besides its staging buffers -/
def begin : sProp 𝕄 :=
  iprop(records X K ∗ levAts L lv ∗ (bigSep Finset.univ fun k : Fin 9 => fresh (kcell (c, k))) ∗ payToks c ∗ promised c
    ∗ whole c main_arg1 W ∗ (idle c 0 ∗ idle c 1) ∗ (∃ f, whole c cc0_scratch0 f) ∗ (∃ f, whole c cc0_scratch1 f))
/-- and ends with -/
def done : sProp 𝕄 :=
  iprop(whole c main_arg1 W ∗ (bigSep Finset.univ fun k : Fin 9 => semVal (kcell (c, k)) 0) ∗ (idle c 0 ∗ idle c 1)
    ∗ (∃ f, whole c cc0_scratch0 f) ∗ (∃ f, whole c cc0_scratch1 f))

/-- A cell past its round closes at zero. -/
theorem close_past (κ : ℕ) (g : GSem nD τ sig) : iprop(cellInv ER (Rd X) κ g ∗ past g) ⊢ iprop(|={Set.univ}=> semVal g 0 : sProp 𝕄) :=
  Rounds.cell_close ER (Rd X) (Set.mem_univ κ) (fun h => h) (R := 0 + 1) (duties_later X g)

/-- All nine cells of a device close at zero. -/
theorem close_all :
    iprop(records X K ∗ past (barCell c) ∗ fresh (kcell (c, 1)) ∗ fresh (kcell (c, kRecv c))
        ∗ (past (sendCell c 0) ∗ past (sendCell c 1) ∗ past (sendCell c 2))
        ∗ (past (recvCell c (peer c 0)) ∗ past (recvCell c (peer c 1)) ∗ past (recvCell c (peer c 2))))
      ⊢ iprop(|={Set.univ}=> bigSep Finset.univ fun k : Fin 9 => semVal (kcell (c, k)) 0 : sProp 𝕄) := by
  rw [over_cells c fun g => semVal g 0]
  iintro ⟨#HR, H0, H1, H2, ⟨H3, H4, H5⟩, H6, H7, H8⟩
  imod (close_past X (K (c, 0)) (barCell c)) $$ [H0] with H0
  · isplitr; · iapply (inv_bar X K c); iexact HR
    iexact H0
  imod (Rounds.cell_close ER (Rd X) (g := kcell (c, 1)) (Set.mem_univ (K (c, 1))) (fun h => h) (R := 0) (duties_one X c)) $$ [H1] with H1
  · isplitr; · iapply (inv_at X K (c, 1)); iexact HR
    iexact H1
  imod (Rounds.cell_close ER (Rd X) (g := kcell (c, kRecv c)) (Set.mem_univ (K (c, kRecv c))) (fun h => h) (R := 0) (duties_self X c)) $$ [H2] with H2
  · isplitr; · iapply (inv_at X K (c, kRecv c)); iexact HR
    iexact H2
  imod (close_past X (K (c, kSend 0)) (sendCell c 0)) $$ [H3] with H3
  · isplitr; · iapply (inv_send X K c 0); iexact HR
    iexact H3
  imod (close_past X (K (c, kSend 1)) (sendCell c 1)) $$ [H4] with H4
  · isplitr; · iapply (inv_send X K c 1); iexact HR
    iexact H4
  imod (close_past X (K (c, kSend 2)) (sendCell c 2)) $$ [H5] with H5
  · isplitr; · iapply (inv_send X K c 2); iexact HR
    iexact H5
  imod (close_past X (K (c, kRecv (peer c 0))) (recvCell c (peer c 0))) $$ [H6] with H6
  · isplitr; · iapply (inv_recv X K c (peer c 0)); iexact HR
    iexact H6
  imod (close_past X (K (c, kRecv (peer c 1))) (recvCell c (peer c 1))) $$ [H7] with H7
  · isplitr; · iapply (inv_recv X K c (peer c 1)); iexact HR
    iexact H7
  imod (close_past X (K (c, kRecv (peer c 2))) (recvCell c (peer c 2))) $$ [H8] with H8
  · isplitr; · iapply (inv_recv X K c (peer c 2)); iexact HR
    iexact H8
  imodintro
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body of device `c`: from the activations `X c`, the weights `W`, the scales and any contents of the result's
    buffer it computes `chunks` there, and leaves the rest as it was. -/
theorem body_run (sx sw : Vec F S1 .f32) (A : Fin 8 → FVec F S1024x1024 .f32) (Q : PUnit → sProp 𝕄) :
    iprop(begin X K W c ∗ owing c (O₀ c) ∗ whole c cc0_stg0_0 (X c) ∗ scales c sx sw ∗ outIs c A
        ∗ (iprop(done W c ∗ owing c 0 ∗ whole c cc0_stg0_0 (X c) ∗ scales c sx sw ∗ outIs c (chunks X W (word sx) (word sw) c)) -∗ Q ⟨⟩))
      ⊢ run c (bodyProg (F := F)) Q := by
  unfold bodyProg begin done payToks promised
  rw [over_cells c fun g => fresh g, over_three, over_three, x_blocks]
  iintro ⟨⟨#HR, #Hl, ⟨Hbar, Hu1, Hu2, Hf0, Hf1, Hf2, Hg0, Hg1, Hg2⟩, ⟨⟨Htb0, Htr0, Hts0⟩, ⟨Htb1, Htr1, Hts1⟩, ⟨Htb2, Htr2, Hts2⟩⟩,
      ⟨Hcb, Hc0, Hc1, Hc2⟩, HW, ⟨Hi0, Hi1⟩, Hcomm, Hwb⟩, Ho, ⟨Hx, Hx0, Hx1, Hx2⟩, Hs, HA, Hk⟩
  ihave Hcm := (slots_split c) $$ Hcomm
  icases Hcm with ⟨Hsc, Hs0, Hs1, Hs2⟩
  ihave Hwb' := (bufs_split c) $$ Hwb
  icases Hwb' with ⟨Hb0, Hb1⟩
  rw [run_bind]
  simp only [Prog.lift]
  rw [run, wp_deviceId, wp_ret]; imodintro
  rw [run_bind]; iapply (meet_run X K c)
  isplitr; · iexact HR
  isplitr; · iexact Hl
  isplitl [Ho]; · iexact Ho
  isplitl [Htb0 Htb1 Htb2]
  · isplitl [Htb0]; · iexact Htb0
    isplitl [Htb1]; · iexact Htb1
    iexact Htb2
  isplitl [Hs0 Hs1 Hs2]
  · isplitl [Hs0]; · iexact Hs0
    isplitl [Hs1]; · iexact Hs1
    iexact Hs2
  isplitl [Hcb]; · iexact Hcb
  isplitl [Hbar]; · iexact Hbar
  iintro ⟨Ho, Hbar, Hp0, Hp1, Hp2⟩
  rw [run_bind]; iapply (sends_run X K c)
  isplitr; · iexact HR
  isplitl [Ho]; · iexact Ho
  unfold toSend
  isplitl [Hx0 Hp0 Hts0 Htr0]
  · isplitl [Hx0]; · iexact Hx0
    isplitl [Hp0]; · iexact Hp0
    isplitl [Hts0]; · iexact Hts0
    iexact Htr0
  isplitl [Hx1 Hp1 Hts1 Htr1]
  · isplitl [Hx1]; · iexact Hx1
    isplitl [Hp1]; · iexact Hp1
    isplitl [Hts1]; · iexact Hts1
    iexact Htr1
  isplitl [Hx2 Hp2 Hts2 Htr2]
  · isplitl [Hx2]; · iexact Hx2
    isplitl [Hp2]; · iexact Hp2
    isplitl [Hts2]; · iexact Hts2
    iexact Htr2
  iintro ⟨Ho, Hd0, Hd1, Hd2⟩
  rw [run_bind]; iapply (startW_run c 0 0 0 W)
  isplitl [HW]; · iexact HW
  isplitl [Hb0]; · iexact Hb0
  isplitl [Hi0]; · iexact Hi0
  rw [ahead_zero]
  iintro Hf
  rw [run_bind]; iapply (ownStrips_run X W c A)
  isplitl [Hf Ho Hb1 Hi1]
  · unfold ready
    isplitl [Hf]; · iexact Hf
    isplitl [Ho]; · iexact Ho
    isplitl [Hb1]; · iexact Hb1
    iexact Hi1
  isplitl [Hx]; · iexact Hx
  isplitl [HA]; · iexact HA
  iintro ⟨Hr, Hx, HA⟩
  rw [run_bind]; iapply (midStrips_run X K W c 2 1 (peer c 0) (ahead_succ c 0))
  isplitr; · iexact HR
  isplitl [Hr]; · iexact Hr
  isplitl [Hc2 Hg2]
  · unfold toGet
    isplitl [Hc2]; · iexact Hc2
    iexact Hg2
  isplitl [HA]; · iexact HA
  iintro ⟨Hr, Hg2, HA⟩
  rw [run_bind]; iapply (midStrips_run X K W c 0 2 (peer c 1) (ahead_succ c 1))
  isplitr; · iexact HR
  isplitl [Hr]; · iexact Hr
  isplitl [Hc0 Hg0]
  · unfold toGet
    isplitl [Hc0]; · iexact Hc0
    iexact Hg0
  isplitl [HA]; · iexact HA
  iintro ⟨Hr, Hg0, HA⟩
  rw [run_bind]; iapply (lastStrips_run X K W c sx sw)
  isplitr; · iexact HR
  isplitl [Hr]; · iexact Hr
  isplitl [Hc1 Hg1]
  · unfold toGet
    isplitl [Hc1]; · iexact Hc1
    iexact Hg1
  isplitl [Hs]; · iexact Hs
  isplitl [HA]; · iexact HA
  unfold gotIt
  iintro ⟨Ho, HW, Hb0, Hb1, Hi0, Hi1, ⟨Hg1, Hs1⟩, Hs, HA⟩
  icases Hg2 with ⟨Hg2, Hs2⟩
  icases Hg0 with ⟨Hg0, Hs0⟩
  unfold waitSends
  rw [run_bind]; iapply (waitSend_run X K c 0)
  isplitr; · iexact HR
  isplitl [Ho]; · iexact Ho
  isplitl [Hd0]; · iexact Hd0
  isplitl [Hf0]; · iexact Hf0
  iintro ⟨Ho, Hf0, Hx0⟩
  rw [run_bind]; iapply (waitSend_run X K c 2)
  isplitr; · iexact HR
  isplitl [Ho]; · iexact Ho
  isplitl [Hd2]; · iexact Hd2
  isplitl [Hf2]; · iexact Hf2
  iintro ⟨Ho, Hf2, Hx2⟩
  iapply (wp_fupd _ _)
  iapply (waitSend_run X K c 1)
  isplitr; · iexact HR
  isplitl [Ho]; · iexact Ho
  isplitl [Hd1]; · iexact Hd1
  isplitl [Hf1]; · iexact Hf1
  iintro ⟨Ho, Hf1, Hx1⟩
  imod (close_all X K c) $$ [Hbar Hu1 Hu2 Hf0 Hf1 Hf2 Hg0 Hg1 Hg2] with Hz
  · isplitr; · iexact HR
    isplitl [Hbar]; · iexact Hbar
    isplitl [Hu1]; · iexact Hu1
    isplitl [Hu2]; · iexact Hu2
    isplitl [Hf0 Hf1 Hf2]
    · isplitl [Hf0]; · iexact Hf0
      isplitl [Hf1]; · iexact Hf1
      iexact Hf2
    isplitl [Hg0]; · iexact Hg0
    isplitl [Hg1]; · iexact Hg1
    iexact Hg2
  imodintro
  iapply Hk
  isplitl [HW Hz Hi0 Hi1 Hsc Hs0 Hs1 Hs2 Hb0 Hb1]
  · isplitl [HW]; · iexact HW
    isplitl [Hz]; · iexact Hz
    isplitl [Hi0 Hi1]
    · isplitl [Hi0]; · iexact Hi0
      iexact Hi1
    isplitl [Hsc Hs0 Hs1 Hs2]
    · iapply (slots_join c)
      isplitl [Hsc]; · iexact Hsc
      isplitl [Hs0]; · iexact Hs0
      isplitl [Hs1]; · iexact Hs1
      iexact Hs2
    iapply (bufs_join c)
    isplitl [Hb0]; · iexact Hb0
    iexact Hb1
  isplitl [Ho]; · iexact Ho
  isplitl [Hx Hx0 Hx1 Hx2]
  · isplitl [Hx]; · iexact Hx
    isplitl [Hx0]; · iexact Hx0
    isplitl [Hx1]; · iexact Hx1
    iexact Hx2
  isplitl [Hs]; · iexact Hs
  iexact HA

end Cert.KernelIdeal.Steps
-- ==== Proof.Ghost.lean ====
module

public import proofs.«01_k».proof.Proof.Body

@[expose] public section

/-!
# What the launch hands out

The rights to pay are minted at the cells and dealt to the devices that pay; the cells' invariants become known
to every device; the credits are what the other devices owe.
-/

noncomputable section

namespace Cert.KernelIdeal.Steps

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

variable (X : Dev nD → IVec S4096x1024 8)

/-! ## The cells and the rights, as sets -/

theorem csem_injective : Function.Injective csem := by decide
theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]
def cellSet : Finset (GSem nD τ sig) := Finset.univ.map ⟨kcell, kcell_injective⟩

/-- The rights minted at a device's cells, three for each of the other devices: which cell, -/
def tokCell (c : Dev nD) (r : Fin 3) : Fin 3 → Fin 9
  | 0 => 0
  | 1 => kRecv (peer c r)
  | 2 => kSend r
/-- and who pays. -/
def tokPayer (c : Dev nD) (r : Fin 3) : Fin 3 → Dev nD
  | 0 => peer c r
  | 1 => peer c r
  | 2 => c
theorem tok_ne : ∀ (c : Dev nD) (r r' k k' : Fin 3), tokCell c r k = tokCell c r' k' → tokPayer c r k = tokPayer c r' k' → r = r' ∧ k = k' := by
  decide
def tokOf (x : Dev nD × Fin 3 × Fin 3) : GSem nD τ sig × ℕ × Dev nD :=
  (kcell (x.1, tokCell x.1 x.2.1 x.2.2), 0, tokPayer x.1 x.2.1 x.2.2)
theorem tokOf_injective : Function.Injective tokOf := by
  rintro ⟨c, r, k⟩ ⟨c', r', k'⟩ h
  have h1 : c = c' := congrArg (fun x : GSem nD τ sig × ℕ × Dev nD => x.1.1.1) h
  subst h1
  have h2 := csem_injective (congrArg (fun x : GSem nD τ sig × ℕ × Dev nD => x.1.2) h)
  obtain ⟨rfl, rfl⟩ := tok_ne c r r' k k' h2 (congrArg (fun x : GSem nD τ sig × ℕ × Dev nD => x.2.2) h)
  rfl
def tokSet : Finset (GSem nD τ sig × ℕ × Dev nD) := Finset.univ.map ⟨tokOf, tokOf_injective⟩

/-- the element of the ghost state that the launch starts from -/
def u₀ : UU := (initOf (Pipeline.cells cfgs cellOf_inj) (Pipeline.launchToks cfgs cellOf_inj), (initOf cellSet tokSet, 1))

/-- the rights minted at device `c`'s cells -/
def minted (c : Dev nD) : sProp 𝕄 :=
  bigSep Finset.univ fun r : Fin 3 =>
    iprop(tok (barCell c) (peer c r) ∗ tok (recvCell c (peer c r)) (peer c r) ∗ tok (sendCell c r) c)

/-- what a device has of its cells before their invariants are made -/
def G (c : Dev nD) : sProp 𝕄 :=
  iprop((bigSep Finset.univ fun k : Fin 9 => roundState ER (Rd X) (kcell (c, k)) 0)
    ∗ (bigSep Finset.univ fun k : Fin 9 => iprop(fresh (kcell (c, k)) ∗ reached ER (kcell (c, k)) 0)) ∗ minted c)
/-- and after -/
def G' (c : Dev nD) : sProp 𝕄 :=
  iprop(∃ K, records X K ∗ (bigSep Finset.univ fun k : Fin 9 => fresh (kcell (c, k))) ∗ payToks c)

theorem over_cellSet (Φ : GSem nD τ sig → sProp 𝕄) :
    bigSep cellSet Φ = bigSep Finset.univ fun c : Dev nD => bigSep Finset.univ fun k : Fin 9 => Φ (kcell (c, k)) := by
  unfold cellSet; rw [bigSep_map, bigSep_univ_prod]; rfl
theorem over_tokSet : bigSep tokSet (fun x => (dutyTok ER x.1 x.2.1 x.2.2 : sProp 𝕄)) = bigSep Finset.univ fun c : Dev nD => minted c := by
  unfold tokSet minted
  rw [bigSep_map, bigSep_univ_prod]
  refine bigSep_congr fun c _ => ?_
  rw [bigSep_univ_prod]
  refine bigSep_congr fun r _ => ?_
  rw [over_three, ← kcell_recv, ← kcell_send]
  rfl

/-- The launch's element funds every device. -/
theorem fund_all : BI.own (ER (initOf cellSet tokSet)) ⊢ (|==> bigSep Finset.univ (G X) : sProp 𝕄) := by
  iintro HX
  imod (Rounds.fund ER (Rd X) cellSet tokSet) $$ HX with ⟨Hst, Hr, Hat, Htok⟩
  imodintro
  ihave Hst' := (Entails.of_eq (over_cellSet fun g => roundState ER (Rd X) g 0)) $$ Hst
  ihave Hat' := (Entails.of_eq (over_cellSet fun g => atPos ER g 0 ∅ 0)) $$ Hat
  ihave Hr' := (Entails.of_eq (over_cellSet fun g => reached ER g 0)) $$ Hr
  ihave Htok' := (Entails.of_eq over_tokSet) $$ Htok
  unfold G; simp only [bigSep_sep']
  isplitl [Hst']; · iexact Hst'
  isplitl [Hat' Hr']
  · isplitl [Hat'] <;> iassumption
  iexact Htok'

/-! ## The counters at zero become the cells' invariants -/

abbrev osem : Fin 10 → SemLoc sig := fun i => .dma ⟨i.val + 4, by have := i.isLt; change _ < 14; omega⟩
theorem ownSemFacts : Pipeline.OwnSemFacts cfg0.spec osem := by decide

/-- the body's own semaphores at zero -/
abbrev own0s (c : Dev nD) : sProp 𝕄 := Pipeline.ownSems0 (Ix := Unit) (Name := ℕ) (U := UU) (Lvl := ℕ) (Val := Elt F) (τ := τ) osem c

theorem wSem_eq (b : Fin 2) : (wSem b).val = 12 + b.val := by revert b; decide
theorem own0s_eq (c : Dev nD) : (own0s c : sProp 𝕄) =
    iprop((bigSep Finset.univ fun k : Fin 8 => semVal (kcell (c, k.succ)) 0) ∗ idle c 0 ∗ idle c 1) := by
  unfold own0s
  rw [Pipeline.ownSems0_eq_of_list c osem [0, 1, 2, 3, 4, 5, 6, 7, 8, 9] (by decide) (by decide),
    bigSep_univ_eq_bigSepL [0, 1, 2, 3, 4, 5, 6, 7] (by decide) (by decide)]
  unfold idle
  rw [show wSem 0 = (⟨12, by decide⟩ : DmaSem sig) from Fin.ext (wSem_eq 0), show wSem 1 = (⟨13, by decide⟩ : DmaSem sig) from Fin.ext (wSem_eq 1)]
  simp only [bigSepL_cons_cons, bigSepL_singleton]
  have h1 (P Q R : sProp 𝕄) : BI.sep (BI.sep P Q) R = BI.sep P (BI.sep Q R) := BI.Entails.antisymm BI.sep_assoc BI.sep_assoc'
  have h (P Q R S T U V W Y Z : sProp 𝕄) : BI.sep P (BI.sep Q (BI.sep R (BI.sep S (BI.sep T (BI.sep U (BI.sep V (BI.sep W (BI.sep Y Z)))))))) =
      BI.sep (BI.sep P (BI.sep Q (BI.sep R (BI.sep S (BI.sep T (BI.sep U (BI.sep V W))))))) (BI.sep Y Z) := by
    simp only [h1]
  exact h _ _ _ _ _ _ _ _ _ _
theorem unscoped_eq (c : Dev nD) : (unscopedSems0 c : sProp 𝕄) = semVal (barCell c) 0 := by
  unfold unscopedSems0; rw [bigSep_eq_bigSepL_of_eq [SemLoc.reg barS] (by decide) (by decide)]; rfl

/-- The nine cells and the two weight semaphores are all that the device has. -/
theorem sems_eq (c : Dev nD) : (iprop(own0s c ∗ unscopedSems0 c) : sProp 𝕄) =
    iprop((bigSep Finset.univ fun k : Fin 9 => semVal (kcell (c, k)) 0) ∗ idle c 0 ∗ idle c 1) := by
  have h9 : (bigSep Finset.univ fun k : Fin 9 => (semVal (kcell (c, k)) 0 : sProp 𝕄)) =
      iprop(semVal (barCell c) 0 ∗ bigSep Finset.univ fun k : Fin 8 => semVal (kcell (c, k.succ)) 0) := by
    rw [bigSep_univ_eq_bigSepL [0, 1, 2, 3, 4, 5, 6, 7, 8] (by decide) (by decide),
      bigSep_univ_eq_bigSepL [0, 1, 2, 3, 4, 5, 6, 7] (by decide) (by decide)]
    rfl
  rw [own0s_eq, unscoped_eq, h9]
  have h (A B C D : sProp 𝕄) : iprop((A ∗ B ∗ C) ∗ D) ⊢ iprop((D ∗ A) ∗ B ∗ C) := by
    iintro ⟨⟨Ha, Hb, Hc⟩, Hd⟩
    isplitl [Ha Hd]
    · isplitl [Hd]; · iexact Hd
      iexact Ha
    isplitl [Hb]; · iexact Hb
    iexact Hc
  have h' (A B C D : sProp 𝕄) : iprop((D ∗ A) ∗ B ∗ C) ⊢ iprop((A ∗ B ∗ C) ∗ D) := by
    iintro ⟨⟨Hd, Ha⟩, Hb, Hc⟩
    isplitl [Ha Hb Hc]
    · isplitl [Ha]; · iexact Ha
      isplitl [Hb]; · iexact Hb
      iexact Hc
    iexact Hd
  exact BI.Entails.antisymm (h _ _ _ _) (h' _ _ _ _)

/-- One device's cells get their invariants. -/
theorem alloc_one (c : Dev nD) :
    iprop(own0s c ∗ unscopedSems0 c ∗ G X c)
      ⊢ |={Set.univ}=> iprop((bigSep Finset.univ fun k => iprop(∃ κ : ℕ, cellInv ER (Rd X) κ (kcell (c, k))))
          ∗ (bigSep Finset.univ fun k => iprop(fresh (kcell (c, k)) ∗ reached ER (kcell (c, k)) 0)) ∗ minted c ∗ (idle c 0 ∗ idle c 1) : sProp 𝕄) := by
  unfold G
  iintro ⟨Hos, Hus, Hst, Hat, Htok⟩
  ihave Hv := (Entails.of_eq (sems_eq (F := F) c)) $$ [Hos Hus]
  · isplitl [Hos] <;> iassumption
  icases Hv with ⟨Hv, Hi⟩
  imod (show iprop((bigSep Finset.univ fun k : Fin 9 => semVal (kcell (c, k)) 0) ∗ bigSep Finset.univ fun k : Fin 9 => roundState ER (Rd X) (kcell (c, k)) 0)
      ⊢ (|={Set.univ}=> bigSep Finset.univ fun k => iprop(∃ κ : ℕ, cellInv ER (Rd X) κ (kcell (c, k))) : sProp 𝕄) from by
        rw [← bigSep_sep']
        exact (bigSep_mono fun k _ => (Rounds.body_intro ER (Rd X) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hi

/-! ## The rights dealt to those who pay -/

/-- From the cell's side to the payer's: the device `r + 1` further on sees this one `3 - r` further on. -/
def across : Dev nD × Fin 3 ≃ Dev nD × Fin 3 where
  toFun x := (peer x.1 x.2, x.2.rev)
  invFun x := (peer x.1 x.2, x.2.rev)
  left_inv x := Prod.ext (peer_rev x.1 x.2) (Fin.rev_rev _)
  right_inv x := Prod.ext (peer_rev x.1 x.2) (Fin.rev_rev _)

/-- What every device has of each peer is what each has of it. -/
theorem deal_across (Φ : Dev nD → Dev nD → sProp 𝕄) :
    (bigSep Finset.univ fun c : Dev nD => bigSep Finset.univ fun r : Fin 3 => Φ c (peer c r)) =
      bigSep Finset.univ fun c : Dev nD => bigSep Finset.univ fun r : Fin 3 => Φ (peer c r) c := by
  rw [← bigSep_univ_prod (fun x : Dev nD × Fin 3 => Φ x.1 (peer x.1 x.2)), ← bigSep_univ_prod (fun x : Dev nD × Fin 3 => Φ (peer x.1 x.2) x.1),
    bigSep_univ_equiv across (fun x : Dev nD × Fin 3 => Φ x.1 (peer x.1 x.2))]
  refine bigSep_congr fun x _ => ?_
  show Φ (peer x.1 x.2) (peer (peer x.1 x.2) x.2.rev) = _
  rw [peer_rev]

theorem deal : (bigSep Finset.univ fun c : Dev nD => (minted c : sProp 𝕄)) = bigSep Finset.univ fun c : Dev nD => payToks c := by
  unfold minted payToks
  simp only [bigSep_sep']
  rw [deal_across (fun c p => tok (barCell c) p), deal_across (fun c p => tok (recvCell c p) p)]

/-- What every device knows may be used at each. -/
theorem with_known {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd X) κ (kcell (c, k))))
          ∗ (bigSep Finset.univ fun k => iprop(fresh (kcell (c, k)) ∗ reached ER (kcell (c, k)) 0)) ∗ minted c ∗ (idle c 0 ∗ idle c 1)) : sProp 𝕄)
      ⊢ bigSep Finset.univ fun c => iprop(G' X c ∗ (idle c 0 ∗ idle c 1)) := by
  rw [bigSep_sep', bigSep_sep', bigSep_sep', deal, ← bigSep_univ_prod (fun ck : Dev nD × Fin 9 => iprop(∃ κ : ℕ, cellInv ER (Rd X) κ (kcell ck))),
    bigSep_congr (s := Finset.univ) (fun (c : Dev nD) _ => bigSep_sep' Finset.univ (fun k : Fin 9 => (fresh (kcell (c, k)) : sProp 𝕄)) (fun k => reached ER (kcell (c, k)) 0)),
    bigSep_sep', ← bigSep_univ_prod (fun ck : Dev nD × Fin 9 => (reached ER (kcell ck) 0 : sProp 𝕄)),
    bigSep_sep' Finset.univ (G' X) (fun c => iprop(idle c 0 ∗ idle c 1))]
  iintro ⟨HI, ⟨Hat, #HR⟩, Htok, Hi⟩
  ihave HK := (BI.bigSep_exists_pi Finset.univ (fun (ck : Dev nD × Fin 9) (κ : ℕ) => (cellInv ER (Rd X) κ (kcell ck) : sProp 𝕄))) $$ HI
  icases HK with ⟨%K, #HI⟩
  isplitl [Hat Htok]
  · iapply (with_known (R := records X K) fun c _ => show iprop(records X K ∗ ((bigSep Finset.univ fun k : Fin 9 => fresh (kcell (c, k))) ∗ payToks c)) ⊢ G' X c from by
      unfold G'
      iintro ⟨H1, H2, H3⟩
      iexists K
      isplitl [H1]; · iexact H1
      isplitl [H2]; · iexact H2
      iexact H3)
    isplitr
    · unfold records; isplitl; · iexact HI
      iexact HR
    · rw [bigSep_sep']
      isplitl [Hat]; · iexact Hat
      iexact Htok
  · iexact Hi

/-- All devices at once. -/
theorem glob : (bigSep Finset.univ fun c => iprop(own0s c ∗ unscopedSems0 c ∗ G X c) : sProp 𝕄)
    ⊢ |={Set.univ}=> bigSep Finset.univ fun c => iprop(G' X c ∗ (idle c 0 ∗ idle c 1)) :=
  ((bigSep_mono fun c _ => alloc_one X c).trans (bigSep_fupd _ _)).trans (BI.fupd_mono (regroup X))

/-! ## The credits -/

theorem bar_eq_iff {a b : Dev nD} : barCell a = barCell b ↔ a = b :=
  ⟨fun h => congrArg (fun g : GSem nD τ sig => g.1.1) h, fun h => h ▸ rfl⟩
theorem outSem_inj {a b : Dev nD} (h : outSem a = outSem b) : a = b := by
  have := congrArg Fin.val h
  rw [outSem_eq, outSem_eq] at this
  exact Fin.ext (by simpa using this)
theorem recv_eq_iff {a b i j : Dev nD} : recvCell a i = recvCell b j ↔ a = b ∧ i = j :=
  ⟨fun h => ⟨congrArg (fun g : GSem nD τ sig => g.1.1) h,
    outSem_inj (SemLoc.dma.inj (congrArg Prod.snd h))⟩, fun h => by rw [h.1, h.2]⟩
theorem recv_ne_bar (a b j : Dev nD) : recvCell a j ≠ barCell b := fun h => by
  have h := congrArg Prod.snd h
  cases h

/-- What device `d` owes the announcements of device `c`, -/
theorem owed_bar (d c : Dev nD) : O₀ d (barCell c) () = if d = c then 0 else 1 := by
  unfold O₀ OS
  simp only [Pi.add_apply, Finsupp.add_apply, tallyAt_apply, bar_eq_iff, (recv_ne_bar _ _ _).symm, false_and, if_false, and_true]
  simp only [eq_comm (a := c)]
  revert d c; decide
/-- and an arrival. -/
theorem owed_recv (d c j : Dev nD) (h : j ≠ c) : O₀ d (recvCell c j) () = if d = j then N else 0 := by
  unfold O₀ OS
  simp only [Pi.add_apply, Finsupp.add_apply, tallyAt_apply, recv_eq_iff, recv_ne_bar, false_and, if_false, and_true]
  by_cases hd : d = j
  · subst hd
    have h3 : (c = peer d 1 ∨ c = peer d 2 ∨ c = peer d 0) := by revert d c; decide
    have h4 : peer d 1 ≠ peer d 2 ∧ peer d 1 ≠ peer d 0 ∧ peer d 2 ≠ peer d 0 := by clear h h3; revert d; decide
    rcases h3 with rfl | rfl | rfl
    · simp [h4.1, h4.2.1, h4.2.2, h4.1.symm, h4.2.1.symm, h4.2.2.symm]
    · simp [h4.1, h4.2.1, h4.2.2, h4.1.symm, h4.2.1.symm, h4.2.2.symm]
    · simp [h4.1, h4.2.1, h4.2.2, h4.1.symm, h4.2.1.symm, h4.2.2.symm]
  · simp [hd, Ne.symm hd, eq_comm (a := j)]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide
theorem launch_recv (c j : Dev nD) (h : j ≠ c) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j h,
    Finset.sum_ite_eq' Finset.univ j fun _ => N, if_pos (Finset.mem_univ _)]

/-- The launch promises a device the three announcements and the three blocks. -/
theorem creds (c : Dev nD) : (Pipeline.launchCred O₀ c : sProp 𝕄) ⊢ promised c := by
  have hsub : ({.reg barS, .dma (outSem (peer c 0)), .dma (outSem (peer c 1)), .dma (outSem (peer c 2))} : Finset (SemLoc sig)) ⊆ Finset.univ :=
    Finset.subset_univ _
  unfold Pipeline.launchCred promised
  rw [over_three, ← launch_bar, ← launch_recv c _ (peer_ne c 0), ← launch_recv c _ (peer_ne c 1), ← launch_recv c _ (peer_ne c 2)]
  have hl : [SemLoc.reg barS, .dma (outSem (peer c 0)), .dma (outSem (peer c 1)), .dma (outSem (peer c 2))].Nodup := by
    simp only [outSem_eq]; revert c; decide
  have e (Φ : SemLoc sig → sProp 𝕄) : bigSep {.reg barS, .dma (outSem (peer c 0)), .dma (outSem (peer c 1)), .dma (outSem (peer c 2))} Φ =
      iprop(Φ (.reg barS) ∗ Φ (.dma (outSem (peer c 0))) ∗ Φ (.dma (outSem (peer c 1))) ∗ Φ (.dma (outSem (peer c 2)))) := by
    rw [bigSep_eq_bigSepL_of_eq [.reg barS, .dma (outSem (peer c 0)), .dma (outSem (peer c 1)), .dma (outSem (peer c 2))] (by ext; simp) hl]
    rfl
  exact (bigSep_subset hsub).trans
    (BIBase.Entails.of_eq (e fun sm => cred (tallyOn ((c : Thread nD τ), sm) (launchCredit (Pipeline.owing O₀) 0 ((c : Thread nD τ), sm)))))

end Cert.KernelIdeal.Steps
-- ==== Proof.BodyEq.lean ====
module

public import proofs.«01_k».proof.Proof.Prog

@[expose] public section

/-!
# The printed body is the program of named steps
-/

noncomputable section

namespace Cert.KernelIdeal.Steps

open Cert.KernelIdeal Cert.KernelIdeal.Gen Idealize.ShloMosaic Idealize.SL.Sem

variable {F : FTy → Type} [FloatOps F]

set_option maxRecDepth 65536 in
set_option maxHeartbeats 4000000 in
/-- The printed body is this program. -/
theorem body_eq (h0 h1 h2 h3 h4 h5 h6) :
    cc0_body (F := F) xM h0 wM h1 sxM h2 swM h3 oM h4 cM h5 bM h6 cc0_scratch2 cc0_scratch3 cc0_scratch4 = bodyProg :=
  rfl

end Cert.KernelIdeal.Steps
-- ==== Proof.Launch.lean ====
module

public import proofs.«01_k».proof.Proof.Ghost
public import proofs.«01_k».proof.Proof.BodyEq
public import proofs.«01_k».proof.Proof.Gen.KernelIdeal.Points
public import Idealize.ShloMosaic.Lib.Pipeline.CollectiveSegs

@[expose] public section

/-!
# The run of the whole program

From any memory with all counters at zero, every execution ends; the result array of device `c` is `outAt c`, the
arguments are unchanged and every counter is at zero.
-/

noncomputable section

namespace Cert.KernelIdeal.Steps

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the staging buffers hold -/

def actsOf (c : Dev nD) : IVec S4096x1024 8 := (win0_0.blk (0 : Fin 1)).view.read (Elt F) (m ((c : Thread nD τ).loc main_arg0))
def sxOf (c : Dev nD) : Vec F S1 .f32 := (win0_1.blk (0 : Fin 1)).view.read (Elt F) (m ((c : Thread nD τ).loc main_arg2))
def swOf (c : Dev nD) : Vec F S1 .f32 := (win0_2.blk (0 : Fin 1)).view.read (Elt F) (m ((c : Thread nD τ).loc main_arg3))
def weightsOf (c : Dev nD) : IVec S4096x8192 8 := m ((c : Thread nD τ).loc main_arg1)

/-- the eight chunks side by side -/
def outV (A : Fin 8 → FVec F S1024x1024 .f32) : FVec F S1024x8192 .f32 := fun i =>
  A ⟨(i 1).val / 1024, by have : (i 1).val < 8192 := (i 1).isLt; omega⟩ (ix2 (i 0) ⟨(i 1).val % 1024, Nat.mod_lt _ (by decide)⟩)

omit [FloatOps F] in
/-- The result is known from its chunks. -/
theorem out_eq (f : (cc0_stg3_0 : Ref sig .tc).ty.Contents (Elt F)) (A : Fin 8 → FVec F S1024x1024 .f32)
    (h : ∀ k, (oM.access (oRect k)).read (Elt F) f = A k) : f = outV A := by
  funext i
  have hi : (i 1).val < 8192 := (i 1).isLt
  unfold outV
  rw [← h]
  refine congrArg f (funext fun a => Fin.ext ?_)
  refine Eq.trans ?_ (ValueKit.view_emb_slice_whole_unit_val cc0_stg3_0 _ _ _ _ a).symm
  revert a
  refine Fin.forall_fin_two.mpr ⟨?_, ?_⟩
  · simp [ix2]
  · show (i 1).val = 1024 * ((i 1).val / 1024) + (i 1).val % 1024
    omega

/-- the result of device `c` -/
def outAt (c : Dev nD) : FVec F S1024x8192 .f32 :=
  outV (chunks (actsOf m) (weightsOf m c) (word (sxOf m c)) (word (swOf m c)) c)

/-! ## The pipeline's data -/

/-- what device `c` has when the body starts, besides the staging buffers and what it owes -/
def Φ₀ (c : Dev nD) : sProp 𝕄 := iprop(∃ K, begin (actsOf m) K (weightsOf m c) c)
/-- and when it ends -/
def Φ₁ (c : Dev nD) : sProp 𝕄 := done (weightsOf m c) c

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => actsOf m c
    | ⟨1, _⟩ => sxOf m c
    | ⟨2, _⟩ => swOf m c
    | ⟨3, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem over_windows (Φ : Fin cfg0.W → sProp 𝕄) :
    bigSep Finset.univ Φ = iprop(Φ (0 : Fin 4) ∗ Φ (1 : Fin 4) ∗ Φ (2 : Fin 4) ∗ Φ (3 : Fin 4)) := bigSep_W0 Φ

omit [FloatOps F] in
theorem owns_buf (c : Dev nD) (b : Ref sig .tc) (f : b.ty.Contents (Elt F)) :
    (owns (Ix := Unit) (Name := ℕ) (U := UU) (Lvl := ℕ) (c : Thread nD τ) (Memref.whole b) fullShare f : sProp 𝕄)
      = iprop(∃ g : Buf (Elt F) ((c : Thread nD τ).loc b), ⌜g = f⌝ ∗ (((c : Thread nD τ).loc b) ↦{fullShare} g)) := by
  unfold owns; simp only [Memref.view_whole, View.read_whole, View.set_whole]

/-- a staging buffer holding `f` -/
abbrev stg (c : Dev nD) (b : Ref sig .tc) (f : b.ty.Contents (Elt F)) : sProp 𝕄 :=
  iprop(∃ g : Buf (Elt F) ((c : Thread nD τ).loc b), ⌜g = f⌝ ∗ (((c : Thread nD τ).loc b) ↦{fullShare} g))

def bodyPre (c : Dev nD) : sProp 𝕄 :=
  iprop(Φ₀ m c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))
def bodyPost (c : Dev nD) : sProp 𝕄 :=
  iprop(Φ₁ m c ∗ (dats m ρ 0 c).owesAt () t0_0.succ ∗ stg c cc0_stg0_0 (actsOf m c) ∗ stg c cc0_stg1_0 (sxOf m c)
    ∗ stg c cc0_stg2_0 (swOf m c) ∗ stg c cc0_stg3_0 (outAt m c))

theorem sound_body (c : Dev nD) :
    bodyPre m ρ c ⊢ wp frame (wpE (defs₀ (F := F)) 𝒱₀ (c : Thread nD τ) none) Set.univ (bodyProg (F := F)) (fun _ => bodyPost m ρ c) := by
  unfold bodyPre Φ₀
  iintro ⟨⟨%K, Hb⟩, Ho, ⟨%d0, %g0, %hg0, Hx⟩, ⟨%d1, %g1, %hg1, Hsx⟩, ⟨%d2, %g2, %hg2, Hsw⟩, ⟨%d3, %g3, %hg3, Hout⟩⟩
  have h0 : g0 = actsOf m c := by rw [hg0]; unfold Dat.before; rw [if_pos (fetch0_0 t0_0)]; rfl
  have h1 : g1 = sxOf m c := by rw [hg1]; unfold Dat.before; rw [if_pos (fetch0_1 t0_0)]; rfl
  have h2 : g2 = swOf m c := by rw [hg2]; unfold Dat.before; rw [if_pos (fetch0_2 t0_0)]; rfl
  subst h0 h1 h2
  unfold Dat.owesAt Pipeline.owesWithin
  icases Ho with ⟨%Ws, -, Ho⟩
  rw [show (dats m ρ 0 c).owed t0_0.castSucc = O₀ c from rfl]
  iapply (body_run (actsOf m) K (weightsOf m c) c (sxOf m c) (swOf m c) (fun k => (oM.access (oRect k)).read (Elt F) g3) fun _ => bodyPost m ρ c)
  isplitl [Hb]; · iexact Hb
  isplitl [Ho]; · unfold owing; iexists Ws; iexact Ho
  isplitl [Hx]; · iexact Hx
  isplitl [Hsx Hsw]
  · unfold scales
    isplitl [Hsx]; · iexact Hsx
    iexact Hsw
  isplitl [Hout]
  · unfold outIs
    iexists g3
    isplitr; · ipureintro; exact fun _ => rfl
    iexact Hout
  unfold owing scales outIs bodyPost Φ₁ Dat.owesAt Pipeline.owesWithin
  rw [show (dats m ρ 0 c).owed t0_0.succ = 0 from rfl]
  iintro ⟨Hd, ⟨%W', Ho⟩, Hx, ⟨Hsx, Hsw⟩, ⟨%f, %hf, Hout⟩⟩
  isplitl [Hd]; · iexact Hd
  isplitl [Ho]
  · iexists W'
    isplitr; · ipureintro; exact fun _ _ => Or.inl trivial
    iexact Ho
  isplitl [Hx]
  · iexists _; isplitr; · (ipureintro; rfl)
    iexact Hx
  isplitl [Hsx]
  · iexists _; isplitr; · (ipureintro; rfl)
    iexact Hsx
  isplitl [Hsw]
  · iexists _; isplitr; · (ipureintro; rfl)
    iexact Hsw
  iexists f
  isplitr
  · ipureintro; exact out_eq f _ hf
  iexact Hout

set_option maxRecDepth 8000 in
/-- The obligation of the pipeline's body. -/
theorem body_obligation (c : Dev nD) : BodyObligation (dats (F := F) m ρ 0 c) (defs₀ (F := F)) 𝒱₀ () Set.univ := fun t => by
  rw [fin_N0 t]
  rw [over_windows, over_windows]
  simp only [owns_buf]
  show bodyPre m ρ c ⊢ wp frame (wpE (defs₀ (F := F)) 𝒱₀ c none) Set.univ
    (cc0_body xM (Memref.isWhole_whole _) wM (Memref.isWhole_whole _) sxM (Memref.isWhole_whole _) swM (Memref.isWhole_whole _)
      oM (Memref.isWhole_whole _) cM (Memref.isWhole_whole _) bM (Memref.isWhole_whole _) cc0_scratch2 cc0_scratch3 cc0_scratch4)
    (fun _ => bodyPost m ρ c)
  rw [body_eq]
  exact sound_body m ρ c

/-! ## The launch's hypotheses -/

/-- what device `c` has when the pipeline starts, besides its scratch buffers -/
def start (c : Dev nD) : sProp 𝕄 :=
  iprop((G' (actsOf m) c ∗ (idle c 0 ∗ idle c 1)) ∗ promised c ∗ levAts L lv ∗ whole c main_arg1 (weightsOf m c))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ (G' (actsOf m) c ∗ (idle c 0 ∗ idle c 1)))
      ⊢ |={Set.univ}=> iprop(start m c ∗ emp) := by
  rw [Pipeline.unscopedRestP_none, unscopedRest0_eq]
  iintro ⟨Hw, Hlev, Hcr, -, HG⟩
  ihave Hc := (creds (F := F) c) $$ Hcr
  imodintro
  unfold start
  isplitl
  · isplitl [HG]; · iexact HG
    isplitl [Hc]; · iexact Hc
    isplitl [Hlev]; · iexact Hlev
    iexact Hw
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ start G' begin
  iintro ⟨⟨⟨⟨%K, Hr, Hf, Hp⟩, Hi⟩, Hpr, Hl, Hw⟩, -, Hc, Hb⟩
  iexists K
  isplitl [Hr]; · iexact Hr
  isplitl [Hl]; · iexact Hl
  isplitl [Hf]; · iexact Hf
  isplitl [Hp]; · iexact Hp
  isplitl [Hpr]; · iexact Hpr
  isplitl [Hw]; · iexact Hw
  isplitl [Hi]; · iexact Hi
  isplitl [Hc]; · iexact Hc
  iexact Hb

/-- what is read of the final memory besides the arrays of the windows -/
def rest (c : Dev nD) : sProp 𝕄 := iprop(unscopedSems0 c ∗ whole c main_arg1 (weightsOf m c))

theorem phi1_exit (c : Dev nD) :
    (dats m ρ 0 c).Φ (Fin.last cfg0.N) ⊢ iprop(rest m c ∗ Pipeline.ownSems0 osem c ∗ Pipeline.scopedRest cfg0.spec c) := by
  rw [show (dats m ρ 0 c).Φ (Fin.last cfg0.N) = Φ₁ m c from rfl, scopedRest0_eq]
  unfold Φ₁ done rest
  iintro ⟨Hw, Hs, Hi, Hc, Hb⟩
  ihave H := (Entails.of_eq (sems_eq (F := F) c).symm) $$ [Hs Hi]
  · isplitl [Hs] <;> iassumption
  icases H with ⟨Ho, Hu⟩
  isplitl [Hu Hw]
  · isplitl [Hu] <;> iassumption
  isplitl [Ho]; · iexact Ho
  isplitl [Hc]; · iexact Hc
  iexact Hb

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr rfl)

theorem share_eq (c : Dev nD) (w : Fin cfg0.W) : (dats m ρ 0 c).share w = fullShare := by unfold Dat.share; split <;> rfl

/-- The final memory has every unscoped counter at zero and the weights unchanged. -/
theorem rest_read (c : Dev nD) (s' : Phys nD τ sig (Elt F)) :
    iprop(rest m c ∗ emp ∗ SI s') ⊢ (|={Set.univ}=> iprop(⌜(∀ sm : SemLoc sig, sm.isScoped .tc = false → s'.mem.sem ((c.tc : Thread nD τ), sm) = 0)
        ∧ s'.mem.mem ((c : Thread nD τ).loc main_arg1) = m ((c : Thread nD τ).loc main_arg1)⌝ ∗ SI s') : sProp 𝕄) := by
  unfold rest
  iintro ⟨⟨Hu, Hw⟩, -, HSI⟩
  icombine HSI Hw gives %h
  imod (Pipeline.unscopedSems0_read (X := unscopedSems0 c) (c := c) fupd_intro s') $$ [Hu HSI] with ⟨%hz, HSI⟩
  · isplitl [Hu] <;> iassumption
  imodintro
  isplitr
  · ipureintro; exact ⟨hz, Buf.eq_of_forall_mem_univ h⟩
  iexact HSI

omit [FloatOps F] in
/-- Of the two ghost states beside the pipeline's, the exchange's is kept. -/
theorem own_protocol (a : UB) (b : Counters) : (BI.own (embR (a, b)) : sProp 𝕄) ⊢ BI.own (ER a) := by
  iintro H
  ihave H' := (own_pair_emb _ a b) $$ H
  icases H' with ⟨H, -⟩
  iexact H

/-! ## The run -/

/-- the array of window `w` on device `c` after the run -/
def finalA (c : Dev nD) (w : Fin cfg0.W) : Buf (Elt F) ((cfg0.win w).arr.view.loc (c : Thread nD τ)) := (dats m ρ 0 c).arrAt w cfg0.N

set_option maxRecDepth 8000 in
/-- The run of the program, for any float values, in terms of the windows' arrays. -/
theorem run_windows : θ_run defs (onTc (τ := τ) (main (F := F))) (s₀ m ρ) (fun r =>
    ((∀ c : Dev nD, ∀ w : Fin cfg0.W, r.2.mem ((cfg0.win w).arr.view.loc (c : Thread nD τ)) = finalA m ρ c w)
      ∧ ∀ c : Dev nD, r.2.mem ((c : Thread nD τ).loc main_arg1) = m ((c : Thread nD τ).loc main_arg1)) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (actsOf m)) (G' := fun c => iprop(G' (actsOf m) c ∗ (idle c 0 ∗ idle c 1))) (u₀ := u₀)
    (hu₀ := by
      unfold u₀
      iintro Hu
      ihave H := (ownU_pair _ _) $$ Hu
      icases H with ⟨HP, HX⟩
      ihave HX' := (own_protocol _ _) $$ HX
      imod (fund_all (actsOf m)) $$ HX' with HG
      imodintro
      isplitl [HP] <;> iassumption)
    (hglob := glob (actsOf m))
    (hA := fun _ _ => rfl) (hpf := fun _ k => k.elim0)
    (X := start m) (Y := rest m) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := rest_read m)
    (hQ := fun _ h hs => ⟨⟨fun c w => (h c).1 w, fun c => (h c).2.2.2⟩, sem_eq_zero hs fun c => (h c).2.2.1⟩)

end Cert.KernelIdeal.Steps
-- ==== Proof.Result.lean ====
module

public import proofs.«01_k».proof.Proof.Launch
public import Idealize.ShloMosaic.Lib.Pipeline.ValueKit

@[expose] public section

/-!
# The run in terms of the program's arrays

Each window's block is its whole array, so the arrays of the windows are what the staging buffers held.
-/

noncomputable section

namespace Cert.KernelIdeal.Steps

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

omit [FloatOps F] in
/-- The activations' one block is the whole array. -/
theorem actsOf_eq (c : Dev nD) : actsOf m c = m ((c : Thread nD τ).loc main_arg0) :=
  Memref.read_access_unit_zero (Elt F) main_arg0 (off := fun a => (win0_0.index (0 : Fin 1)) a * main_arg0.ty.shape.size a)
    (funext fun a => by fin_cases a <;> decide) (fun a => by fin_cases a <;> decide) _

omit [FloatOps F] in
/-- So is the first scale's, -/
theorem sxOf_eq (c : Dev nD) : sxOf m c = m ((c : Thread nD τ).loc main_arg2) :=
  Memref.read_access_unit_zero (Elt F) main_arg2 (off := fun a => (win0_1.index (0 : Fin 1)) a * main_arg2.ty.shape.size a)
    (funext fun a => by fin_cases a <;> decide) (fun a => by fin_cases a <;> decide) _

omit [FloatOps F] in
/-- and the second's. -/
theorem swOf_eq (c : Dev nD) : swOf m c = m ((c : Thread nD τ).loc main_arg3) :=
  Memref.read_access_unit_zero (Elt F) main_arg3 (off := fun a => (win0_2.index (0 : Fin 1)) a * main_arg3.ty.shape.size a)
    (funext fun a => by fin_cases a <;> decide) (fun a => by fin_cases a <;> decide) _

/-- The result array ends as the result's staging buffer did. -/
theorem finalA_result (c : Dev nD) : finalA m ρ c (3 : Fin 4) = outAt m c := by
  have h : (win0_3.blk (0 : Fin 1)).view.read (Elt F) (finalA m ρ c (3 : Fin 4)) = outAt m c := by
    unfold finalA
    rw [show cfg0.N = ((0 : Fin 1) : Fin cfg0.N).val + 1 from rfl, (dats m ρ 0 c).arrAt_succ (3 : Fin 4) (0 : Fin 1)]
    rw [show (cfg0.win (3 : Fin 4)).flush (0 : Fin 1) = true from by decide, if_pos rfl]
    exact View.read_write_univ _ _
  exact (Memref.read_access_unit_zero (Elt F) main_v1 (off := fun a => (win0_3.index (0 : Fin 1)) a * main_v1.ty.shape.size a)
    (funext fun a => by fin_cases a <;> decide) (fun a => by fin_cases a <;> decide) _).symm.trans h

/-- From any memory with all counters at zero every execution ends, each device's result array at `outAt`, the
    arguments unchanged, and every counter at zero. -/
theorem run_main : θ_run defs (onTc (τ := τ) (main (F := F))) ⟨m, fun _ => 0, ρ⟩ (fun r =>
    (∀ c : Dev nD, r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun _ h => ⟨fun c =>
    ⟨(h.1.1 c (3 : Fin 4)).trans (finalA_result m ρ c),
      (h.1.1 c (0 : Fin 4)).trans ((dats m ρ 0 c).arrAt_in (0 : Fin 4) rfl _),
      h.1.2 c,
      (h.1.1 c (1 : Fin 4)).trans ((dats m ρ 0 c).arrAt_in (1 : Fin 4) rfl _),
      (h.1.1 c (2 : Fin 4)).trans ((dats m ρ 0 c).arrAt_in (2 : Fin 4) rfl _)⟩, h.2⟩) (run_windows m ρ)

/-- The run without the result. -/
theorem run_frame : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun _ h => ⟨fun c => (h.1 c).2, h.2⟩) (run_main m ρ)

end Cert.KernelIdeal.Steps
-- ==== Proof.Frames.lean ====
module

public import proofs.«01_k».proof.Proof.Result
public import proofs.«01_k».proof.Defs
public import proofs.«01_k».proof.Proof.Gen.Kernel
public import proofs.«01_k».proof.Proof.Gen.ReferenceIdeal.Run
public import Idealize.ShloMosaic.Lib.Quiescent

@[expose] public section

/-!
# The frames

The arguments of the three programs end unchanged and their counters at zero.
-/

noncomputable section

namespace Cert.Frames

open Idealize.ShloMosaic Idealize.ShloMosaic.TcCoe Idealize.SL.Sem

/-- The idealized kernel's frame. -/
theorem kernelIdeal : Cert.quiescent_KernelIdeal (hKernelIdeal := Cert.KernelIdeal.Gen.facts) := fun m ρ _ =>
  Cert.KernelIdeal.Steps.run_frame (F := Ideal) m ρ

section
local instance : Cert.Kernel.Facts := Cert.Kernel.Gen.facts
local instance : Cert.KernelIdeal.Facts := Cert.KernelIdeal.Gen.facts
variable {F : FTy → Type} [FloatOps F]

set_option maxRecDepth 65536 in
/-- The kernel and the idealized kernel have one body, -/
theorem defs₀_eq : Cert.Kernel.defs₀ (F := F) = Cert.KernelIdeal.defs₀ (F := F) := by
  unfold Cert.Kernel.defs₀ Cert.KernelIdeal.defs₀
  refine congrArg Defs.onTc ?_
  funext ℓ x
  match ℓ, x with
  | 0, (t, s) => rfl
  | ⟨_ + 1, h⟩, _ => exact absurd h (Nat.not_lt.2 (Nat.le_add_left _ _))

/-- so one table of bodies, -/
theorem defs_eq : Cert.Kernel.defs (F := F) = Cert.KernelIdeal.defs (F := F) :=
  congrArg (Pipeline.defs Cert.KernelIdeal.pcfgs) defs₀_eq

/-- and one entry. -/
theorem main_eq : Cert.Kernel.main (F := F) = Cert.KernelIdeal.main (F := F) := rfl

end

/-- The kernel's frame: the two programs are one text, and the run is known for any float values. -/
theorem kernel : Cert.quiescent_Kernel (hKernel := Cert.Kernel.Gen.facts) := fun m ρ _ => by
  have h := Cert.KernelIdeal.Steps.run_frame (F := Bits) m ρ
  rw [← defs_eq] at h
  exact h

/-- The reference's frame: it has no counter. -/
theorem reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems rfl r.2⟩)
    (Cert.ReferenceIdeal.Value.run (F := Ideal) m ρ)

end Cert.Frames
-- ==== Proof.Value.lean ====
module

public import proofs.«01_k».proof.Proof.Result
public import Idealize.ShloMosaic.Lib.IntMxu
public import Idealize.ShloMosaic.Lib.MatmulPlain
public import Idealize.ShloMosaic.Lib.ValueIdx
public import Idealize.ShloMosaic.Lib.Layout
public import Idealize.ShloMosaic.Lib.Pipeline.Value
public import Idealize.ShloMosaic.PureOps.Ideal.Laws

@[expose] public section

/-!
# The result over the extended reals

When each device holds its column block of one array of activations, an entry of a device's result is the scaled and cut
off product of a whole row of that array and a column of the weights: the eight half blocks a device adds up are the
row's 4096 positions.
-/

noncomputable section

namespace Cert.KernelIdeal.Value

open Cert.KernelIdeal Cert.KernelIdeal.Gen Cert.KernelIdeal.Steps
open Idealize.ShloMosaic Idealize.ShloMosaic.TcCoe
open scoped BigOperators

/-! ## Sums -/

/-- A sum over `a * b` positions, block by block. -/
theorem sum_blocks {M : Type*} [AddCommMonoid M] (a b : ℕ) (f : Fin (a * b) → M) :
    ∑ i, f i = ∑ q : Fin a, ∑ t : Fin b, f (finProdFinEquiv (q, t)) := by
  rw [← Equiv.sum_comp finProdFinEquiv, Fintype.sum_prod_type]

/-- the sum over half `h` of block `q` of the 4096 positions -/
def halfSum (f : Fin 4096 → ℤ) (q : Fin 4) (h : Fin 2) : ℤ :=
  ∑ t : Fin 512, f ⟨1024 * q.val + 512 * h.val + t.val, by omega⟩

/-- The eight half blocks make up the whole. -/
theorem sum_halves (f : Fin 4096 → ℤ) : ∑ i, f i = ∑ q : Fin 4, (halfSum f q 0 + halfSum f q 1) := by
  refine (sum_blocks 4 1024 f).trans (Finset.sum_congr rfl fun q _ => ?_)
  refine (sum_blocks 2 512 fun t => f (finProdFinEquiv (q, t))).trans ?_
  rw [Fin.sum_univ_two]
  unfold halfSum
  refine congrArg₂ (· + ·) (Finset.sum_congr rfl fun t _ => congrArg f (Fin.ext ?_))
    (Finset.sum_congr rfl fun t _ => congrArg f (Fin.ext ?_))
  · show t.val + 512 * 0 + 1024 * q.val = 1024 * q.val + 512 * 0 + t.val
    omega
  · show t.val + 512 * 1 + 1024 * q.val = 1024 * q.val + 512 * 1 + t.val
    omega

/-- The four devices, in the order in which device `c` uses their blocks. -/
theorem sum_devs (c : Dev nD) (g : Dev nD → ℤ) : ∑ q, g q = g c + g (peer c 2) + g (peer c 0) + g (peer c 1) := by
  refine (Fin.sum_univ_four (fun q : Fin 4 => g q)).trans ?_
  have h : ∀ c : Dev nD, (c, peer c 2, peer c 0, peer c 1) = ((0 : Dev nD), (3 : Dev nD), (1 : Dev nD), (2 : Dev nD))
      ∨ (c, peer c 2, peer c 0, peer c 1) = ((1 : Dev nD), (0 : Dev nD), (2 : Dev nD), (3 : Dev nD))
      ∨ (c, peer c 2, peer c 0, peer c 1) = ((2 : Dev nD), (1 : Dev nD), (3 : Dev nD), (0 : Dev nD))
      ∨ (c, peer c 2, peer c 0, peer c 1) = ((3 : Dev nD), (2 : Dev nD), (0 : Dev nD), (1 : Dev nD)) := by decide
  rcases h c with h | h | h | h <;>
  · obtain ⟨h0, h1, h2, h3⟩ := by simpa only [Prod.mk.injEq] using h
    rw [h1, h2, h3, h0]
    ring

/-- A sum over the contracted index of a plain product is one over its one coordinate. -/
theorem sum_contr {M K N : ℕ} {A : Type*} [AddCommMonoid A] (r : Fin M) (n : Fin N)
    (f : (⟨2, ![M, K]⟩ : Shape).Idx → (⟨2, ![K, N]⟩ : Shape).Idx → A) :
    ∑ k, f ((DotDims.plain M K N).lhsIdx (ix2 r n) k) ((DotDims.plain M K N).rhsIdx (ix2 r n) k)
      = ∑ t : Fin K, f (ix2 r t) (ix2 t n) := by
  rw [← Equiv.sum_comp (DotDims.plainContr M K N).symm]
  refine Finset.sum_congr rfl fun t _ => ?_
  have ht := ValueIdx.contrEquiv1_symm_val _ K (DotDims.plain_contr_rank M K N) (DotDims.plain_contr_size M K N) t
  refine congrArg₂ f (funext fun a => Fin.ext ?_) (funext fun a => Fin.ext ?_)
  · match a with
    | ⟨0, _⟩ => rfl
    | ⟨1, _⟩ => exact ht
  · match a with
    | ⟨0, _⟩ => exact ht
    | ⟨1, _⟩ => rfl

/-! ## The parts -/

/-- an integer among the extended reals -/
abbrev real (z : ℤ) : EReal := ((z : ℝ) : EReal)

theorem real_add (a b : ℤ) : real (a + b) = real a + real b := by
  unfold real; rw [Int.cast_add, EReal.coe_add]
theorem real_mul (a b : ℤ) : real (a * b) = real a * real b := by
  unfold real; rw [Int.cast_mul, EReal.coe_mul]
theorem real_sum {I : Type*} (S : Finset I) (f : I → ℤ) : real (∑ i ∈ S, f i) = ∑ i ∈ S, real (f i) := by
  classical
  induction S using Finset.induction_on with
  | empty => simp [real]
  | insert i S hi ih => rw [Finset.sum_insert hi, Finset.sum_insert hi, real_add, ih]

/-- column `1024 k + j` of the result -/
abbrev col (k : Fin 8) (j : Fin 1024) : Fin 8192 := ⟨1024 * k.val + j.val, by omega⟩

/-- A part is the exact sum of its 512 products: the integer product does not overflow. -/
theorem part_apply (k : Fin 8) (x : IVec S1024x512 8) (w : IVec S512x8192 8) (r j : Fin 1024) :
    part (F := Ideal) k x w (ix2 r j) = real (∑ t : Fin 512, (x (ix2 r t)).toInt * (w (ix2 t (col k j))).toInt) := by
  have h : part (F := Ideal) k x w (ix2 r j) =
      real (matmulI8 IntMxuNumerics.v7x (DotDims.plain 1024 512 1024) x
        (extractStridedSlice S512x1024 ![0, 1024 * k.val] w (slices_chunk k)) (fun _ => 0#32) (ix2 r j)).toInt := rfl
  rw [h, matmulI8_toInt _ _ _ _ _ _ rfl ((absDotI8_le_numel _ _ _ _).trans (by decide))]
  unfold dotI8
  rw [sum_contr r j fun a b => (x a).toInt * (extractStridedSlice S512x1024 ![0, 1024 * k.val] w (slices_chunk k) b).toInt]
  refine congrArg real (Finset.sum_congr rfl fun t _ => congrArg (fun b : BitVec 8 => (x (ix2 r t)).toInt * b.toInt) ?_)
  refine extractStridedSlice_apply _ _ _ _ _ fun a => ?_
  match a with
  | ⟨0, _⟩ => exact (Nat.zero_add _).symm
  | ⟨1, _⟩ => rfl

variable (Z : IVec ⟨2, ![4096, 4096]⟩ 8) (W : IVec S4096x8192 8)

/-- the products that make up the entry at row `i` and column `n` -/
def prods (i : Fin 4096) (n : Fin 8192) (t : Fin 4096) : ℤ := (Z (ix2 i t)).toInt * (W (ix2 t n)).toInt

/-- device `q`'s block of the activations -/
abbrev piece (q : Dev nD) : IVec S4096x1024 8 := Layout.block ⟨2, ![4096, 1024]⟩ ⟨2, ![4096, 4096]⟩ 1 4 q Z

/-- row `r` of row block `c` -/
abbrev row (c : Dev nD) (r : Fin 1024) : Fin 4096 := ⟨1024 * c.val + r.val, by have := c.isLt; change c.val < 4 at this; omega⟩

/-- The part of device `q`'s half `h` is that half block of the entry's products. -/
theorem part_half (c q : Dev nD) (h : Fin 2) (k : Fin 8) (r j : Fin 1024) :
    part (F := Ideal) k (half h (rows c (piece Z q))) (strip q h W) (ix2 r j)
      = real (halfSum (prods Z W (row c r) (col k j)) q h) := by
  rw [part_apply]
  refine congrArg real (Finset.sum_congr rfl fun t _ => ?_)
  unfold prods
  refine congrArg₂ (fun a b : BitVec 8 => a.toInt * b.toInt) ?_ rfl
  refine congrArg Z (funext fun a => Fin.ext ?_)
  match a with
  | ⟨0, _⟩ => rfl
  | ⟨1, _⟩ =>
    show q.val * 1024 + (512 * h.val + t.val) = 1024 * q.val + 512 * h.val + t.val
    omega

theorem accum_apply (k : Fin 8) (x : IVec S1024x512 8) (w : IVec S512x8192 8) (o : Vec Ideal S1024x1024 .f32) (i : S1024x1024.Idx) :
    accum (F := Ideal) k x w o i = o i + part (F := Ideal) k x w i := by
  unfold accum
  rw [shapeCast_self]
  rfl

theorem finish_apply (k : Fin 8) (x : IVec S1024x512 8) (w : IVec S512x8192 8) (sx sw : EReal) (o : Vec Ideal S1024x1024 .f32)
    (i : S1024x1024.Idx) : finish (F := Ideal) k x w sx sw o i = max (accum (F := Ideal) k x w o i * (sx * sw)) 0 := by
  have hz : (FloatOps.ofBits (F := Ideal) .f32 0x00000000#32 : EReal) = 0 := Ideal.ofBits_zero_f32
  rw [← hz]
  rfl

/-- An entry of a chunk of the result of device `c`. -/
theorem chunks_apply (sx sw : EReal) (c : Dev nD) (k : Fin 8) (r j : Fin 1024) :
    chunks (F := Ideal) (piece Z) W sx sw c k (ix2 r j)
      = max (real (∑ t, prods Z W (row c r) (col k j) t) * (sx * sw)) 0 := by
  unfold chunks lastTwo
  rw [finish_apply]
  unfold midTwo firstTwo
  simp only [accum_apply, part_half]
  simp only [← real_add]
  rw [sum_halves, sum_devs c]
  simp only [← add_assoc]

end Cert.KernelIdeal.Value
-- ==== Proof.Algebraic.lean ====
module

public import proofs.«01_k».proof.Proof.Value
public import proofs.«01_k».proof.Defs
public import proofs.«01_k».proof.Proof.Gen.ReferenceIdeal.Run

@[expose] public section

/-!
# The kernel's result is the reference's

The reference at an entry, and the claim that device `c`'s result is row block `c` of the reference's.
-/

noncomputable section

namespace Cert.Algebraic

open Idealize.ShloMosaic Idealize.ShloMosaic.TcCoe Idealize.SL.Sem
open Cert.KernelIdeal.Value
open scoped BigOperators

section Reference

open Cert.ReferenceIdeal Cert.ReferenceIdeal.Gen

/-- the reference's result as its text composes it -/
def refOut (Z : IVec S4096x4096 8) (W : IVec S4096x8192 8) (sx sw : FVec Ideal S1 .f32) : FVec Ideal S4096x8192 .f32 :=
  maximumf (mulf (Host.dotGeneral dot_S4096x4096_S4096x8192_S4096x8192_1_0_0_1_n_n none (sitofp .f32 (extsi 32 Z natLt_8_32)) (sitofp .f32 (extsi 32 W natLt_8_32)))
    (broadcastInDim S4096x8192 ![0, 1] bcast_S1x1_S4096x8192_0_1 (broadcastInDim S1x1 ![1] bcast_S1_S1x1_1 (mulf sx sw))))
    (broadcastInDim S4096x8192 ![] bcast_S_S4096x8192 (constant S_ .f32 0x00000000#32))

/-- Widening an integer and reading it as a real keeps it. -/
theorem widened_apply {s : Shape} (x : IVec s 8) (h : 8 < 32) (i : s.Idx) :
    (sitofp .f32 (extsi 32 x h) : FVec Ideal s .f32) i = real (x i).toInt := by
  show real ((x i).signExtend 32).toInt = real (x i).toInt
  rw [BitVec.toInt_signExtend_of_le (Nat.le_of_lt h)]

/-- The only entry of a one-entry array, spread over the result. -/
theorem spread_apply (s : FVec Ideal S1 .f32) (j : S4096x8192.Idx) :
    broadcastInDim S4096x8192 ![0, 1] bcast_S1x1_S4096x8192_0_1 (broadcastInDim S1x1 ![1] bcast_S1_S1x1_1 s) j
      = Cert.KernelIdeal.Steps.word (F := Ideal) s := by
  refine (broadcastInDim_apply _ _ _ _ (ix2 (0 : Fin 1) (0 : Fin 1)) fun a => ?_).trans ?_
  · match a with
    | ⟨0, _⟩ => rfl
    | ⟨1, _⟩ => rfl
  refine broadcastInDim_apply _ _ _ _ _ fun a => ?_
  match a with
  | ⟨0, _⟩ => rfl

/-- An entry of the reference's result. -/
theorem refOut_apply (Z : IVec S4096x4096 8) (W : IVec S4096x8192 8) (sx sw : FVec Ideal S1 .f32) (i : Fin 4096) (n : Fin 8192) :
    refOut Z W sx sw (ix2 i n) = max (real (∑ t, prods Z W i n t) * (Cert.KernelIdeal.Steps.word (F := Ideal) sx * Cert.KernelIdeal.Steps.word (F := Ideal) sw)) 0 := by
  have hz : (FloatOps.ofBits (F := Ideal) .f32 0x00000000#32 : EReal) = 0 := Ideal.ofBits_zero_f32
  have hd : (Host.dotGeneral dot_S4096x4096_S4096x8192_S4096x8192_1_0_0_1_n_n none (sitofp .f32 (extsi 32 Z natLt_8_32))
      (sitofp .f32 (extsi 32 W natLt_8_32)) : FVec Ideal S4096x8192 .f32) (ix2 i n) = real (∑ t, prods Z W i n t) := by
    refine (Ideal.dotGeneral_apply (DotDims.plain 4096 4096 8192) none _ _ _ (ix2 i n)).trans ?_
    refine (sum_contr i n fun a b => (sitofp .f32 (extsi 32 Z natLt_8_32) : FVec Ideal S4096x4096 .f32) a
      * (sitofp .f32 (extsi 32 W natLt_8_32) : FVec Ideal S4096x8192 .f32) b).trans ?_
    rw [real_sum]
    refine Finset.sum_congr rfl fun t _ => ?_
    rw [widened_apply, widened_apply, ← real_mul]
    rfl
  rw [← hd, ← hz]
  unfold refOut
  rw [ValueIdx.maximumf_apply, ValueIdx.mulf_apply, spread_apply]
  rfl

end Reference

open Cert.KernelIdeal Cert.KernelIdeal.Steps in
/-- When the devices hold the column blocks of `Z` and the same weights and scales, device `c`'s result is row block `c` of
    the reference's result. -/
theorem outAt_eq (m : (ℓ : Loc nD τ sig) → Buf (Elt Ideal) ℓ) (Z : IVec ⟨2, ![4096, 4096]⟩ 8) (W : IVec S4096x8192 8)
    (sx sw : FVec Ideal S1 .f32) (c : Dev nD)
    (h0 : ∀ q : Dev nD, m ((q : Thread nD τ).loc main_arg0) = piece Z q) (h1 : m ((c : Thread nD τ).loc main_arg1) = W)
    (h2 : m ((c : Thread nD τ).loc main_arg2) = sx) (h3 : m ((c : Thread nD τ).loc main_arg3) = sw) :
    outAt m c = Layout.block ⟨2, ![1024, 8192]⟩ ⟨2, ![4096, 8192]⟩ 0 4 c (refOut Z W sx sw) := by
  have hX : actsOf m = piece Z := funext fun q => (actsOf_eq m q).trans (h0 q)
  have hW : weightsOf m c = W := h1
  funext i
  suffices h : ∀ (r : Fin 1024) (n : Fin 8192), outAt m c (ix2 r n)
      = Layout.block ⟨2, ![1024, 8192]⟩ ⟨2, ![4096, 8192]⟩ 0 4 c (refOut Z W sx sw) (by decide) (ix2 r n) by
    rw [ValueIdx.eq_ix2 i]; exact h _ _
  intro r n
  unfold outAt outV
  rw [hX, hW, (sxOf_eq m c).trans h2, (swOf_eq m c).trans h3]
  refine (chunks_apply Z W _ _ c _ r _).trans ?_
  rw [Layout.block_apply]
  refine Eq.trans ?_ (congrArg (refOut Z W sx sw) (?_ : ix2 (row c r) n = _))
  · rw [refOut_apply]
    have hn : col ⟨n.val / 1024, by omega⟩ ⟨n.val % 1024, Nat.mod_lt _ (by decide)⟩ = n := Fin.ext (by show 1024 * (n.val / 1024) + n.val % 1024 = n.val; omega)
    exact congrArg (fun n' => max (real (∑ t, prods Z W (row c r) n' t) * (word (F := Ideal) sx * word (F := Ideal) sw)) 0) hn
  · funext a
    refine Fin.ext ?_
    match a with
    | ⟨0, _⟩ => show 1024 * c.val + r.val = c.val * 1024 + r.val; omega
    | ⟨1, _⟩ => rfl

/-- The claim. -/
theorem algebraic : Cert.algebraic_KernelIdeal_ReferenceIdeal (hKernelIdeal := Cert.KernelIdeal.Gen.facts)
    (hReferenceIdeal := Cert.ReferenceIdeal.Gen.facts) := fun m g m' g' _ h =>
  ⟨_, (θ_run Cert.KernelIdeal.defs _ _).mono (fun _ hr c => ⟨(hr.1 c).1.trans
      (outAt_eq m _ _ _ _ c (fun q => (h q).1) (h c).2.1 (h c).2.2.1 (h c).2.2.2), (hr.1 c).2⟩) (Cert.KernelIdeal.Steps.run_main (F := Ideal) m g),
    (θ_run Cert.ReferenceIdeal.defs _ _).mono (fun _ hr => hr 0) (Cert.ReferenceIdeal.Value.run (F := Ideal) m' g')⟩
end Cert.Algebraic
-- ==== Proof.lean ====
module

public import proofs.«01_k».proof.Defs
public import proofs.«01_k».proof.Proof.Frames
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

noncomputable section

namespace Cert.Proof

theorem claim : Cert.Claim := ⟨Cert.Kernel.Gen.facts, Cert.KernelIdeal.Gen.facts, Cert.ReferenceIdeal.Gen.facts,
  Cert.Frames.kernel, Cert.Frames.kernelIdeal, Cert.Frames.reference, trivial, Cert.Algebraic.algebraic⟩

end Cert.Proof

end
